-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S4x2048x1024 : Shape := ⟨3, ![4, 2048, 1024]⟩
abbrev S4x2048 : Shape := ⟨2, ![4, 2048]⟩
abbrev S64 : Shape := ⟨1, ![64]⟩
abbrev S3x64 : Shape := ⟨2, ![3, 64]⟩
abbrev S128x2048 : Shape := ⟨2, ![128, 2048]⟩
abbrev S128 : Shape := ⟨1, ![128]⟩
abbrev S128x100000 : Shape := ⟨2, ![128, 100000]⟩
abbrev S_ : Shape := ⟨0, ![]⟩
abbrev S4x4x1024 : Shape := ⟨3, ![4, 4, 1024]⟩

class Facts : Prop where
  bcast_S_S3x64 : S_.BroadcastsInDim S3x64 (![] : Fin 0 → Fin S3x64.rank)
  reducesTo_S3x64_S_d0_1 : S3x64.ReducesTo [0, 1] S_
  h_S_ : 0 < S_.numel
  slices_S4x2048x1024_S4x4x1024_0_0_0 : S4x2048x1024.Slices ![0, 0, 0] S4x4x1024
  bcast_S_S4x4x1024 : S_.BroadcastsInDim S4x4x1024 (![] : Fin 0 → Fin S4x4x1024.rank)
  reducesTo_S4x4x1024_S_d0_1_2 : S4x4x1024.ReducesTo [0, 1, 2] S_
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_
  bcast_S_S128x100000 : S_.BroadcastsInDim S128x100000 (![] : Fin 0 → Fin S128x100000.rank)
  reducesTo_S128x100000_S_d0_1 : S128x100000.ReducesTo [0, 1] S_

variable [Facts]

def fn_part1 {F : FTy → Type} [FloatOps F] (main_arg6 : FVec F S128x100000 .f32) (main_v5 : IVec S_ 1) (main_v10 : IVec S_ 1) (main_v14 : IVec S_ 1) (main_v15 : FVec F S128 .f32) (main_cst_5 : FVec F S_ .f32) : IVec S_ 1 :=
  let main_v16 : FVec F S128 .f32 := broadcastInDim S128 ![] bcast_S_S128 main_cst_5
  let main_v17 : IVec S128 1 := cmpf .olt main_v15 main_v16
  let main_c_6 : IVec S_ 1 := constantI S_ 1 1#1
  let main_v18 : IVec S_ 1 := (fun x v => Host.reduce IntOp.andi x v reducesTo_S128_S_d0 h_S_) main_v17 main_c_6
  let main_v19 : IVec S_ 1 := andi main_v14 main_v18
  let main_v20 : IVec S_ 1 := andi main_v5 main_v10
  let main_v21 : IVec S_ 1 := andi main_v20 main_v19
  let main_v22 : FVec F S128x100000 .f32 := Host.absf main_arg6
  let main_cst_7 : FVec F S_ .f32 := constant S_ .f32 0x7F800000#32
  let main_v23 : FVec F S128x100000 .f32 := broadcastInDim S128x100000 ![] bcast_S_S128x100000 main_cst_7
  let main_v24 : IVec S128x100000 1 := cmpf .olt main_v22 main_v23
  let main_c_8 : IVec S_ 1 := constantI S_ 1 1#1
  let main_v25 : IVec S_ 1 := (fun x v => Host.reduce IntOp.andi x v reducesTo_S128x100000_S_d0_1 h_S_) main_v24 main_c_8
  let main_v26 : IVec S_ 1 := andi main_v21 main_v25
  main_v26

def fn {F : FTy → Type} [FloatOps F] (main_arg0 : FVec F S4x2048x1024 .f32) (main_arg1 : IVec S4x2048 32) (main_arg2 : IVec S64 32) (main_arg3 : IVec S3x64 32) (main_arg4 : FVec F S128x2048 .f32) (main_arg5 : FVec F S128 .f32) (main_arg6 : FVec F S128x100000 .f32) : IVec S_ 1 :=
  let main_c : IVec S_ 32 := constantI S_ 32 0#32
  let main_v0 : IVec S3x64 32 := broadcastInDim S3x64 ![] bcast_S_S3x64 main_c
  let main_v1 : IVec S3x64 1 := cmpi .sge main_arg3 main_v0
  let main_c_0 : IVec S_ 32 := constantI S_ 32 4#32
  let main_v2 : IVec S3x64 32 := broadcastInDim S3x64 ![] bcast_S_S3x64 main_c_0
  let main_v3 : IVec S3x64 1 := cmpi .slt main_arg3 main_v2
  let main_v4 : IVec S3x64 1 := andi main_v1 main_v3
  let main_c_1 : IVec S_ 1 := constantI S_ 1 1#1
  let main_v5 : IVec S_ 1 := (fun x v => Host.reduce IntOp.andi x v reducesTo_S3x64_S_d0_1 h_S_) main_v4 main_c_1
  let main_v6 : FVec F S4x4x1024 .f32 := (extractStridedSlice S4x4x1024 ![0, 0, 0] · slices_S4x2048x1024_S4x4x1024_0_0_0) main_arg0
  let main_v7 : FVec F S4x4x1024 .f32 := Host.absf main_v6
  let main_cst : FVec F S_ .f32 := constant S_ .f32 0x7F800000#32
  let main_v8 : FVec F S4x4x1024 .f32 := broadcastInDim S4x4x1024 ![] bcast_S_S4x4x1024 main_cst
  let main_v9 : IVec S4x4x1024 1 := cmpf .olt main_v7 main_v8
  let main_c_2 : IVec S_ 1 := constantI S_ 1 1#1
  let main_v10 : IVec S_ 1 := (fun x v => Host.reduce IntOp.andi x v reducesTo_S4x4x1024_S_d0_1_2 h_S_) main_v9 main_c_2
  let main_v11 : FVec F S128x2048 .f32 := Host.absf main_arg4
  let main_cst_3 : FVec F S_ .f32 := constant S_ .f32 0x7F800000#32
  let main_v12 : FVec F S128x2048 .f32 := broadcastInDim S128x2048 ![] bcast_S_S128x2048 main_cst_3
  let main_v13 : IVec S128x2048 1 := cmpf .olt main_v11 main_v12
  let main_c_4 : IVec S_ 1 := constantI S_ 1 1#1
  let main_v14 : IVec S_ 1 := (fun x v => Host.reduce IntOp.andi x v reducesTo_S128x2048_S_d0_1 h_S_) main_v13 main_c_4
  let main_v15 : FVec F S128 .f32 := Host.absf main_arg5
  let main_cst_5 : FVec F S_ .f32 := constant S_ .f32 0x7F800000#32
  fn_part1 (F := F) main_arg6 main_v5 main_v10 main_v14 main_v15 main_cst_5
-- ==== Kernel.lean ====
abbrev S4x2048x1024 : Shape := ⟨3, ![4, 2048, 1024]⟩
abbrev S4x2048 : Shape := ⟨2, ![4, 2048]⟩
abbrev S64 : Shape := ⟨1, ![64]⟩
abbrev S3x64 : Shape := ⟨2, ![3, 64]⟩
abbrev S128x2048 : Shape := ⟨2, ![128, 2048]⟩
abbrev S128 : Shape := ⟨1, ![128]⟩
abbrev S128x100000 : Shape := ⟨2, ![128, 100000]⟩
abbrev S4x4x1024 : Shape := ⟨3, ![4, 4, 1024]⟩
abbrev S16x1024 : Shape := ⟨2, ![16, 1024]⟩
abbrev S1x128 : Shape := ⟨2, ![1, 128]⟩
abbrev S100000x128 : Shape := ⟨2, ![100000, 128]⟩
abbrev S64x100000 : Shape := ⟨2, ![64, 100000]⟩
abbrev S8192x128 : Shape := ⟨2, ![8192, 128]⟩
abbrev S64x8192 : Shape := ⟨2, ![64, 8192]⟩
abbrev S64x106496 : Shape := ⟨2, ![64, 106496]⟩
abbrev S64x128 : Shape := ⟨2, ![64, 128]⟩
abbrev S1x64 : Shape := ⟨2, ![1, 64]⟩
abbrev S16x64 : Shape := ⟨2, ![16, 64]⟩
abbrev S128x1024 : Shape := ⟨2, ![128, 1024]⟩
abbrev S16x128 : Shape := ⟨2, ![16, 128]⟩
abbrev S64x1 : Shape := ⟨2, ![64, 1]⟩

abbrev nBuf : Space → Nat
  | .hbm => 12
  | .vmem => 11
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S64, .i32⟩
  | .hbm, ⟨3, _⟩ => ⟨S3x64, .i32⟩
  | .hbm, ⟨4, _⟩ => ⟨S128x2048, .f32⟩
  | .hbm, ⟨5, _⟩ => ⟨S128, .f32⟩
  | .hbm, ⟨6, _⟩ => ⟨S128x100000, .f32⟩
  | .hbm, ⟨7, _⟩ => ⟨S4x4x1024, .f32⟩
  | .hbm, ⟨8, _⟩ => ⟨S16x1024, .f32⟩
  | .hbm, ⟨9, _⟩ => ⟨S1x128, .f32⟩
  | .hbm, ⟨10, _⟩ => ⟨S100000x128, .f32⟩
  | .hbm, ⟨11, _⟩ => ⟨S64x100000, .f32⟩
  | .local _ .vmem, ⟨0, _⟩ => ⟨S3x64, .i32⟩
  | .local _ .vmem, ⟨1, _⟩ => ⟨S16x1024, .f32⟩
  | .local _ .vmem, ⟨2, _⟩ => ⟨S128x2048, .f32⟩
  | .local _ .vmem, ⟨3, _⟩ => ⟨S1x128, .f32⟩
  | .local _ .vmem, ⟨4, _⟩ => ⟨S8192x128, .f32⟩
  | .local _ .vmem, ⟨5, _⟩ => ⟨S8192x128, .f32⟩
  | .local _ .vmem, ⟨6, _⟩ => ⟨S64x8192, .f32⟩
  | .local _ .vmem, ⟨7, _⟩ => ⟨S64x8192, .f32⟩
  | .local _ .vmem, ⟨8, _⟩ => ⟨S64x106496, .f32⟩
  | .local _ .vmem, ⟨9, _⟩ => ⟨S64x128, .bf16⟩
  | .local _ .vmem, ⟨10, _⟩ => ⟨S64x128, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![2, 13], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let arg1 : BitVec 32 := BitVec.ofNat 32 (i 1).val
  let c12_i32 : BitVec 32 := 12#32
  let v6 : BitVec 1 := Scalar.cmpi .slt arg1 c12_i32
  let v7 : BitVec 1 := Scalar.andi v5 v6
  let v8 : BitVec 32 := Scalar.extui v7
  let c0_i32_3 : BitVec 32 := 0#32
  let v9 : BitVec 1 := Scalar.cmpi .ne v8 c0_i32_3
  v9

def k0_off1 (i : grid0.Coords) : Fin 2 → Nat :=
  let c0_11 : Index := 0#32
  let arg1 : BitVec 32 := BitVec.ofNat 32 (i 1).val
  let c8192_i32 : BitVec 32 := 8192#32
  let v24 : BitVec 32 := Scalar.muli arg1 c8192_i32
  let v25 : Index := Scalar.indexCast v24
  ![0, v25.toNat]
def k0_cond3 (i : grid0.Coords) : BitVec 1 :=
  let arg0 : BitVec 32 := BitVec.ofNat 32 (i 0).val
  let c0_i32_4 : BitVec 32 := 0#32
  let v10 : BitVec 1 := Scalar.cmpi .eq arg0 c0_i32_4
  let arg1 : BitVec 32 := BitVec.ofNat 32 (i 1).val
  let c12_i32_5 : BitVec 32 := 12#32
  let v11 : BitVec 1 := Scalar.cmpi .eq arg1 c12_i32_5
  let v12 : BitVec 1 := Scalar.andi v10 v11
  let v13 : BitVec 32 := Scalar.extui v12
  let c0_i32_6 : BitVec 32 := 0#32
  let v14 : BitVec 1 := Scalar.cmpi .ne v13 c0_i32_6
  v14

def k0_off2 (i : grid0.Coords) : Fin 2 → Nat :=
  let c0_12 : Index := 0#32
  let arg1 : BitVec 32 := BitVec.ofNat 32 (i 1).val
  let c8192_i32 : BitVec 32 := 8192#32
  let v31 : BitVec 32 := Scalar.muli arg1 c8192_i32
  let v32 : Index := Scalar.indexCast v31
  ![0, v32.toNat]
def k0_cond4 (i : grid0.Coords) : BitVec 1 :=
  let arg0 : BitVec 32 := BitVec.ofNat 32 (i 0).val
  let c1_i32 : BitVec 32 := 1#32
  let v15 : BitVec 1 := Scalar.cmpi .eq arg0 c1_i32
  let v16 : BitVec 32 := Scalar.extui v15
  let c0_i32_7 : BitVec 32 := 0#32
  let v17 : BitVec 1 := Scalar.cmpi .ne v16 c0_i32_7
  v17

def k0_off3 (i : grid0.Coords) : Fin 2 → Nat :=
  let c0 : Index := 0#32
  let arg1 : BitVec 32 := BitVec.ofNat 32 (i 1).val
  let c8192_i32 : BitVec 32 := 8192#32
  let v21 : BitVec 32 := Scalar.muli arg1 c8192_i32
  let v22 : Index := Scalar.indexCast v21
  ![0, v22.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![c0_i32_1.toNat, v1.toNat]

abbrev stage0_0 : Fin 1 → Memref sig .tc .vmem S3x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x2048x1024 : Shape := ⟨3, ![4, 2048, 1024]⟩
abbrev S4x2048 : Shape := ⟨2, ![4, 2048]⟩
abbrev S64 : Shape := ⟨1, ![64]⟩
abbrev S3x64 : Shape := ⟨2, ![3, 64]⟩
abbrev S128x2048 : Shape := ⟨2, ![128, 2048]⟩
abbrev S128 : Shape := ⟨1, ![128]⟩
abbrev S128x100000 : Shape := ⟨2, ![128, 100000]⟩
abbrev S1x64 : Shape := ⟨2, ![1, 64]⟩
abbrev S_ : Shape := ⟨0, ![]⟩
abbrev S64x1 : Shape := ⟨2, ![64, 1]⟩
abbrev S64x2 : Shape := ⟨2, ![64, 2]⟩
abbrev S64x1024 : Shape := ⟨2, ![64, 1024]⟩
abbrev S64x2048 : Shape := ⟨2, ![64, 2048]⟩
abbrev S2048x128 : Shape := ⟨2, ![2048, 128]⟩
abbrev S64x128 : Shape := ⟨2, ![64, 128]⟩
abbrev S1x128 : Shape := ⟨2, ![1, 128]⟩
abbrev S64x100000 : Shape := ⟨2, ![64, 100000]⟩

abbrev nBuf : Space → Nat
  | .hbm => 72
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048, .i32⟩
  | .hbm, ⟨2, _⟩ => ⟨S64, .i32⟩
  | .hbm, ⟨3, _⟩ => ⟨S3x64, .i32⟩
  | .hbm, ⟨4, _⟩ => ⟨S128x2048, .f32⟩
  | .hbm, ⟨5, _⟩ => ⟨S128, .f32⟩
  | .hbm, ⟨6, _⟩ => ⟨S128x100000, .f32⟩
  | .hbm, ⟨7, _⟩ => ⟨S1x64, .i32⟩
  | .hbm, ⟨8, _⟩ => ⟨S64, .i32⟩
  | .hbm, ⟨9, _⟩ => ⟨S1x64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S_, .i32⟩
  | .hbm, ⟨15, _⟩ => ⟨S64, .i32⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S_, .i32⟩
  | .hbm, ⟨22, _⟩ => ⟨S64, .i32⟩
  | .hbm, ⟨23, _⟩ => ⟨S64, .i32⟩
  | .hbm, ⟨24, _⟩ => ⟨S64, .i32⟩
  | .hbm, ⟨25, _⟩ => ⟨S64x1, .i32⟩
  | .hbm, ⟨26, _⟩ => ⟨S64x1, .i32⟩
  | .hbm, ⟨27, _⟩ => ⟨S64x2, .i32⟩
  | .hbm, ⟨28, _⟩ => ⟨S64x1024, .f32⟩
  | .hbm, ⟨29, _⟩ => ⟨S1x64, .i32⟩
  | .hbm, ⟨30, _⟩ => ⟨S64, .i32⟩
  | .hbm, ⟨31, _⟩ => ⟨S1x64, .i32⟩
  | .hbm, ⟨32, _⟩ => ⟨S64, .i32⟩
  | .hbm, ⟨33, _⟩ => ⟨S_, .i32⟩
  | .hbm, ⟨34, _⟩ => ⟨S64, .i32⟩
  | .hbm, ⟨35, _⟩ => ⟨S64, .i1⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64, .i32⟩
  | .hbm, ⟨40, _⟩ => ⟨S_, .i32⟩
  | .hbm, ⟨41, _⟩ => ⟨S64, .i32⟩
  | .hbm, ⟨42, _⟩ => ⟨S64, .i1⟩
  | .hbm, ⟨43, _⟩ => ⟨S_, .i32⟩
  | .hbm, ⟨44, _⟩ => ⟨S64, .i32⟩
  | .hbm, ⟨45, _⟩ => ⟨S64, .i32⟩
  | .hbm, ⟨46, _⟩ => ⟨S64, .i32⟩
  | .hbm, ⟨47, _⟩ => ⟨S64x1, .i32⟩
  | .hbm, ⟨48, _⟩ => ⟨S64x1, .i32⟩
  | .hbm, ⟨49, _⟩ => ⟨S64x2, .i32⟩
  | .hbm, ⟨50, _⟩ => ⟨S64x1024, .f32⟩
  | .hbm, ⟨51, _⟩ => ⟨S64x2048, .f32⟩
  | .hbm, ⟨52, _⟩ => ⟨S2048x128, .f32⟩
  | .hbm, ⟨53, _⟩ => ⟨S64x128, .f32⟩
  | .hbm, ⟨54, _⟩ => ⟨S1x128, .f32⟩
  | .hbm, ⟨55, _⟩ => ⟨S64x128, .f32⟩
  | .hbm, ⟨56, _⟩ => ⟨S64x128, .f32⟩
  | .hbm, ⟨57, _⟩ => ⟨S64x100000, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64x1, .f32⟩
  | .hbm, ⟨64, _⟩ => ⟨S64x100000, .f32⟩
  | .hbm, ⟨65, _⟩ => ⟨S64x100000, .f32⟩
  | .hbm, ⟨66, _⟩ => ⟨S64x100000, .f32⟩
  | .hbm, ⟨67, _⟩ => ⟨S_, .f32⟩
  | .hbm, ⟨68, _⟩ => ⟨S64, .f32⟩
  | .hbm, ⟨69, _⟩ => ⟨S64x1, .f32⟩
  | .hbm, ⟨70, _⟩ => ⟨S64x100000, .f32⟩
  | .hbm, ⟨71, _⟩ => ⟨S64x100000, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_3 : Ref sig .tc := ⟨.hbm, 33, rfl⟩
abbrev main_v22 : Ref sig .tc := ⟨.hbm, 34, rfl⟩
abbrev main_v23 : Ref sig .tc := ⟨.hbm, 35, rfl⟩
abbrev main_c_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.VecWindow

/-!
The kernel body, run once in each of the five ways its branches can go over the grid. Each theorem says what the body leaves
in the three scratch buffers and in the output's staging buffer, as functions of what it found there.
-/

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The condition of the body's first branch: the grid's first point. -/
abbrev atFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1

/-- The condition of the branch inside the second pass: that pass's first point. -/
abbrev atRowStart (i : grid0.Coords) : Prop :=
  Scalar.cmpi .ne (Scalar.extui (Scalar.cmpi .eq (BitVec.ofNat 32 (i 1).val) 0#32)) 0#32 = 1#1

/-- The lane sums after a block of the first pass before its last: the block's 64 groups of 128 columns added one by one. -/
def sums (p : Vec F S64x128 .bf16) (x : Vec F S8192x128 .f32) (s : Vec F S64x128 .f32) : Vec F S64x128 .f32 :=
  k0_pay2 (k0_pay8 p x) (k0_pay11 (k0_pay8 p x) (k0_pay10 p x s))

/-- The lane sums after the first pass's last block, whose columns past the vocabulary count as zero. -/
def sumsLast (p : Vec F S64x128 .bf16) (x : Vec F S8192x128 .f32) (s : Vec F S64x128 .f32) : Vec F S64x128 .f32 :=
  k0_pay3 (k0_pay12 p x) (k0_pay15 (k0_pay12 p x) (k0_pay14 p x s))

/-- The output block the second pass writes: the kept block times the kept reciprocal of the row sums. -/
def scaled (i : grid0.Coords) (h : k0_cond4 i = 1#1) (a : Vec F S64x106496 .f32) (s : Vec F S64x128 .f32) : Vec F S64x8192 .f32 :=
  k0_pay5 (VecWindow.window a (k0_off3 i) S64x8192.size (k0_off3_inb i h)) (VecWindow.window s ![0, 0] S64x1.size inb_S64x128_S64x1_0_0)

/-- At the grid's first point: the projected mentions are computed and kept, the lane sums start from zero, and the first block is scored. -/
theorem run_first (c : Dev nD) (i : grid0.Coords) (arg2 : Memref sig .tc .vmem S3x64 .i32) (harg2 : arg2.IsWhole) (arg3 : Memref sig .tc .vmem S16x1024 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S8192x128 .f32) (harg6 : arg6.IsWhole) (arg7 : Memref sig .tc .vmem S64x8192 .f32) (harg7 : arg7.IsWhole) (arg8 : Memref sig .tc .vmem S64x106496 .f32) (harg8 : arg8.IsWhole) (arg9 : Memref sig .tc .vmem S64x128 .bf16) (harg9 : arg9.IsWhole) (arg10 : Memref sig .tc .vmem S64x128 .f32) (harg10 : arg10.IsWhole)
    (hc0 : atFirst i) (hc1 : k0_cond2 i = 1#1) (hc2 : ¬k0_cond3 i = 1#1) (hc3 : ¬k0_cond4 i = 1#1)
    (xp : Vec F S3x64 .i32) (xx : Vec F S16x1024 .f32) (xw : Vec F S128x2048 .f32) (xb : Vec F S1x128 .f32) (xe : Vec F S8192x128 .f32) (a : Vec F S64x106496 .f32) (p : Vec F S64x128 .bf16) (s : Vec F S64x128 .f32)
    (E : Set ℕ) (K : PUnit → sProp 𝕄) :
    iprop(owns (c : Thread nD τ) arg2 fullShare xp ∗ owns (c : Thread nD τ) arg3 fullShare xx ∗ owns (c : Thread nD τ) arg4 fullShare xw ∗ owns (c : Thread nD τ) arg5 fullShare xb ∗ owns (c : Thread nD τ) arg6 fullShare xe ∗ owns (c : Thread nD τ) arg8 fullShare a ∗ owns (c : Thread nD τ) arg9 fullShare p ∗ owns (c : Thread nD τ) arg10 fullShare s
        ∗ (iprop(owns (c : Thread nD τ) arg2 fullShare xp ∗ owns (c : Thread nD τ) arg3 fullShare xx ∗ owns (c : Thread nD τ) arg4 fullShare xw ∗ owns (c : Thread nD τ) arg5 fullShare xb ∗ owns (c : Thread nD τ) arg6 fullShare xe ∗ owns (c : Thread nD τ) arg8 fullShare (VecWindow.put a (k0_off1 i) S64x8192.size (k0_pay9 (k0_pay6 xp xx xw xb) xe)) ∗ owns (c : Thread nD τ) arg9 fullShare (k0_pay6 xp xx xw xb) ∗ owns (c : Thread nD τ) arg10 fullShare (sums (k0_pay6 xp xx xw xb) xe (k0_pay1 k0_pay7))) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  simp only [k0_part1_eq_skeleton, k0_part2_eq_skeleton, k0_part3_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4; obtain rfl := harg5.eq_unread hf5; obtain rfl := harg6.eq_unread hf6; obtain rfl := harg8.eq_unread hf8; obtain rfl := harg9.eq_unread hf9; obtain rfl := harg10.eq_unread hf10
  sl_exec (disch := first | sl_exact hc0 | sl_exact hc1 | sl_exact hc2 | sl_exact hc3)
  sl_step
  iapply Hk
  isplitl [H2]
  · iexists _; isplitr; swap; · iexact H2
    ipureintro; exact harg2.read_unread _
  isplitl [H3]
  · iexists _; isplitr; swap; · iexact H3
    ipureintro; exact harg3.read_unread _
  isplitl [H4]
  · iexists _; isplitr; swap; · iexact H4
    ipureintro; exact harg4.read_unread _
  isplitl [H5]
  · iexists _; isplitr; swap; · iexact H5
    ipureintro; exact harg5.read_unread _
  isplitl [H6]
  · iexists _; isplitr; swap; · iexact H6
    ipureintro; exact harg6.read_unread _
  isplitl [H8]
  · iexists _; isplitr; swap; · iexact H8
    ipureintro
    have hv : run_first.sl.v18 c arg2 harg2 arg3 harg3 arg4 harg4 arg5 harg5 arg9 xp xx xw xb = k0_pay6 xp xx xw xb := by
      unfold run_first.sl.v18 run_first.sl.H9_1
      rw [View.readCov_full, View.readAt_full, View.readAt_full, View.readAt_full, View.readAt_full, hf2, hf3, hf4, hf5]
    rw [View.read_writes_cons_put arg8.view _ _ _ _ rfl, View.writes_nil, hf8, hv, View.readAt_full, hf6]
  isplitl [H9]
  · iexists _; isplitr; swap; · iexact H9
    ipureintro
    unfold run_first.sl.H9_1
    refine (View.read_writes_full arg9.view _ _ _ _).trans ?_
    rw [View.readAt_full, View.readAt_full, View.readAt_full, View.readAt_full, hf2, hf3, hf4, hf5]
  · iexists _; isplitr; swap; · iexact H10
    ipureintro
    refine (View.read_writes_full arg10.view _ _ _ _).trans ?_
    have hv : run_first.sl.v18 c arg2 harg2 arg3 harg3 arg4 harg4 arg5 harg5 arg9 xp xx xw xb = k0_pay6 xp xx xw xb := by
      unfold run_first.sl.v18 run_first.sl.H9_1
      rw [View.readCov_full, View.readAt_full, View.readAt_full, View.readAt_full, View.readAt_full, hf2, hf3, hf4, hf5]
    have hs : run_first.sl.v29 c arg10 = k0_pay1 (F := F) k0_pay7 := by
      unfold run_first.sl.v29 run_first.sl.H10_1
      exact View.readCov_full _ _ _ _ _
    unfold run_first.sl.r_2 run_first.sl.r_1 run_first.sl.r sums
    rw [View.readAt_full, hf6, hv, hs]

/-- At a point of the first pass between its first and its last: the point's block is scored. -/
theorem run_mid (c : Dev nD) (i : grid0.Coords) (arg2 : Memref sig .tc .vmem S3x64 .i32) (harg2 : arg2.IsWhole) (arg3 : Memref sig .tc .vmem S16x1024 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S8192x128 .f32) (harg6 : arg6.IsWhole) (arg7 : Memref sig .tc .vmem S64x8192 .f32) (harg7 : arg7.IsWhole) (arg8 : Memref sig .tc .vmem S64x106496 .f32) (harg8 : arg8.IsWhole) (arg9 : Memref sig .tc .vmem S64x128 .bf16) (harg9 : arg9.IsWhole) (arg10 : Memref sig .tc .vmem S64x128 .f32) (harg10 : arg10.IsWhole)
    (hc0 : ¬atFirst i) (hc1 : k0_cond2 i = 1#1) (hc2 : ¬k0_cond3 i = 1#1) (hc3 : ¬k0_cond4 i = 1#1)
    (xe : Vec F S8192x128 .f32) (a : Vec F S64x106496 .f32) (p : Vec F S64x128 .bf16) (s : Vec F S64x128 .f32)
    (E : Set ℕ) (K : PUnit → sProp 𝕄) :
    iprop(owns (c : Thread nD τ) arg6 fullShare xe ∗ owns (c : Thread nD τ) arg8 fullShare a ∗ owns (c : Thread nD τ) arg9 fullShare p ∗ owns (c : Thread nD τ) arg10 fullShare s
        ∗ (iprop(owns (c : Thread nD τ) arg6 fullShare xe ∗ owns (c : Thread nD τ) arg8 fullShare (VecWindow.put a (k0_off1 i) S64x8192.size (k0_pay9 p xe)) ∗ owns (c : Thread nD τ) arg9 fullShare p ∗ owns (c : Thread nD τ) arg10 fullShare (sums p xe s)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  simp only [k0_part2_eq_skeleton, k0_part3_eq_skeleton]
  unfold owns
  iintro ⟨⟨%f6, %hf6, H6⟩, ⟨%f8, %hf8, H8⟩, ⟨%f9, %hf9, H9⟩, ⟨%f10, %hf10, H10⟩, Hk⟩
  obtain rfl := harg6.eq_unread hf6; obtain rfl := harg8.eq_unread hf8; obtain rfl := harg9.eq_unread hf9; obtain rfl := harg10.eq_unread hf10
  sl_exec (disch := first | sl_exact hc0 | sl_exact hc1 | sl_exact hc2 | sl_exact hc3)
  sl_step
  iapply Hk
  isplitl [H6]
  · iexists _; isplitr; swap; · iexact H6
    ipureintro; exact harg6.read_unread _
  isplitl [H8]
  · iexists _; isplitr; swap; · iexact H8
    ipureintro
    rw [View.read_writes_cons_put arg8.view _ _ _ _ rfl, View.writes_nil, hf8, View.readAt_full, View.readAt_full, hf9, hf6]
  isplitl [H9]
  · iexists _; isplitr; swap; · iexact H9
    ipureintro; exact harg9.read_unread _
  · iexists _; isplitr; swap; · iexact H10
    ipureintro
    refine (View.read_writes_full arg10.view _ _ _ _).trans ?_
    unfold run_mid.sl.r_2 run_mid.sl.r_1 run_mid.sl.r sums
    rw [View.readAt_full, View.readAt_full, View.readAt_full, hf9, hf6, hf10]

/-- At the first pass's last point: the block is scored with the columns past the vocabulary set to zero. -/
theorem run_last (c : Dev nD) (i : grid0.Coords) (arg2 : Memref sig .tc .vmem S3x64 .i32) (harg2 : arg2.IsWhole) (arg3 : Memref sig .tc .vmem S16x1024 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S8192x128 .f32) (harg6 : arg6.IsWhole) (arg7 : Memref sig .tc .vmem S64x8192 .f32) (harg7 : arg7.IsWhole) (arg8 : Memref sig .tc .vmem S64x106496 .f32) (harg8 : arg8.IsWhole) (arg9 : Memref sig .tc .vmem S64x128 .bf16) (harg9 : arg9.IsWhole) (arg10 : Memref sig .tc .vmem S64x128 .f32) (harg10 : arg10.IsWhole)
    (hc0 : ¬atFirst i) (hc1 : ¬k0_cond2 i = 1#1) (hc2 : k0_cond3 i = 1#1) (hc3 : ¬k0_cond4 i = 1#1)
    (xe : Vec F S8192x128 .f32) (a : Vec F S64x106496 .f32) (p : Vec F S64x128 .bf16) (s : Vec F S64x128 .f32)
    (E : Set ℕ) (K : PUnit → sProp 𝕄) :
    iprop(owns (c : Thread nD τ) arg6 fullShare xe ∗ owns (c : Thread nD τ) arg8 fullShare a ∗ owns (c : Thread nD τ) arg9 fullShare p ∗ owns (c : Thread nD τ) arg10 fullShare s
        ∗ (iprop(owns (c : Thread nD τ) arg6 fullShare xe ∗ owns (c : Thread nD τ) arg8 fullShare (VecWindow.put a (k0_off2 i) S64x8192.size (k0_pay13 p xe)) ∗ owns (c : Thread nD τ) arg9 fullShare p ∗ owns (c : Thread nD τ) arg10 fullShare (sumsLast p xe s)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  simp only [k0_part4_eq_skeleton, k0_part5_eq_skeleton]
  unfold owns
  iintro ⟨⟨%f6, %hf6, H6⟩, ⟨%f8, %hf8, H8⟩, ⟨%f9, %hf9, H9⟩, ⟨%f10, %hf10, H10⟩, Hk⟩
  obtain rfl := harg6.eq_unread hf6; obtain rfl := harg8.eq_unread hf8; obtain rfl := harg9.eq_unread hf9; obtain rfl := harg10.eq_unread hf10
  sl_exec (disch := first | sl_exact hc0 | sl_exact hc1 | sl_exact hc2 | sl_exact hc3)
  sl_step
  iapply Hk
  isplitl [H6]
  · iexists _; isplitr; swap; · iexact H6
    ipureintro; exact harg6.read_unread _
  isplitl [H8]
  · iexists _; isplitr; swap; · iexact H8
    ipureintro
    rw [View.read_writes_cons_put arg8.view _ _ _ _ rfl, View.writes_nil, hf8, View.readAt_full, View.readAt_full, hf9, hf6]
  isplitl [H9]
  · iexists _; isplitr; swap; · iexact H9
    ipureintro; exact harg9.read_unread _
  · iexists _; isplitr; swap; · iexact H10
    ipureintro
    refine (View.read_writes_full arg10.view _ _ _ _).trans ?_
    unfold run_last.sl.r_2 run_last.sl.r_1 run_last.sl.r sumsLast
    rw [View.readAt_full, View.readAt_full, View.readAt_full, hf9, hf6, hf10]

/-- At the second pass's first point: the lane sums are summed and inverted, then the point's output block is written. -/
theorem run_turn (c : Dev nD) (i : grid0.Coords) (arg2 : Memref sig .tc .vmem S3x64 .i32) (harg2 : arg2.IsWhole) (arg3 : Memref sig .tc .vmem S16x1024 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S8192x128 .f32) (harg6 : arg6.IsWhole) (arg7 : Memref sig .tc .vmem S64x8192 .f32) (harg7 : arg7.IsWhole) (arg8 : Memref sig .tc .vmem S64x106496 .f32) (harg8 : arg8.IsWhole) (arg9 : Memref sig .tc .vmem S64x128 .bf16) (harg9 : arg9.IsWhole) (arg10 : Memref sig .tc .vmem S64x128 .f32) (harg10 : arg10.IsWhole)
    (hc0 : ¬atFirst i) (hc1 : ¬k0_cond2 i = 1#1) (hc2 : ¬k0_cond3 i = 1#1) (hc3 : k0_cond4 i = 1#1) (hc4 : atRowStart i)
    (o : Vec F S64x8192 .f32) (a : Vec F S64x106496 .f32) (s : Vec F S64x128 .f32)
    (E : Set ℕ) (K : PUnit → sProp 𝕄) :
    iprop(owns (c : Thread nD τ) arg7 fullShare o ∗ owns (c : Thread nD τ) arg8 fullShare a ∗ owns (c : Thread nD τ) arg10 fullShare s
        ∗ (iprop(owns (c : Thread nD τ) arg7 fullShare (scaled i hc3 a (k0_pay4 s)) ∗ owns (c : Thread nD τ) arg8 fullShare a ∗ owns (c : Thread nD τ) arg10 fullShare (k0_pay4 s)) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  unfold owns
  iintro ⟨⟨%f7, %hf7, H7⟩, ⟨%f8, %hf8, H8⟩, ⟨%f10, %hf10, H10⟩, Hk⟩
  obtain rfl := harg7.eq_unread hf7; obtain rfl := harg8.eq_unread hf8; obtain rfl := harg10.eq_unread hf10
  sl_exec (disch := first | sl_exact hc0 | sl_exact hc1 | sl_exact hc2 | sl_exact hc3 | sl_exact hc4)
  sl_step
  iapply Hk
  isplitl [H7]
  · iexists _; isplitr; swap; · iexact H7
    ipureintro
    refine (View.read_writes_full arg7.view _ _ _ _).trans ?_
    unfold run_turn.sl.v24 run_turn.sl.H10_1 scaled View.readCov
    rw [View.readAt_unit _ _ _ rfl (k0_off3_inb i hc3), View.readAt_unit arg10.view _ inb_S64x128_S64x1_0_0 rfl inb_S64x128_S64x1_0_0, hf8,
      View.read_writes_full, View.readAt_full, hf10]
  isplitl [H8]
  · iexists _; isplitr; swap; · iexact H8
    ipureintro; exact harg8.read_unread _
  · iexists _; isplitr; swap; · iexact H10
    ipureintro
    unfold run_turn.sl.H10_1
    refine (View.read_writes_full arg10.view _ _ _ _).trans ?_
    rw [View.readAt_full, hf10]

/-- At a later point of the second pass: the point's output block is written. -/
theorem run_scale (c : Dev nD) (i : grid0.Coords) (arg2 : Memref sig .tc .vmem S3x64 .i32) (harg2 : arg2.IsWhole) (arg3 : Memref sig .tc .vmem S16x1024 .f32) (harg3 : arg3.IsWhole) (arg4 : Memref sig .tc .vmem S128x2048 .f32) (harg4 : arg4.IsWhole) (arg5 : Memref sig .tc .vmem S1x128 .f32) (harg5 : arg5.IsWhole) (arg6 : Memref sig .tc .vmem S8192x128 .f32) (harg6 : arg6.IsWhole) (arg7 : Memref sig .tc .vmem S64x8192 .f32) (harg7 : arg7.IsWhole) (arg8 : Memref sig .tc .vmem S64x106496 .f32) (harg8 : arg8.IsWhole) (arg9 : Memref sig .tc .vmem S64x128 .bf16) (harg9 : arg9.IsWhole) (arg10 : Memref sig .tc .vmem S64x128 .f32) (harg10 : arg10.IsWhole)
    (hc0 : ¬atFirst i) (hc1 : ¬k0_cond2 i = 1#1) (hc2 : ¬k0_cond3 i = 1#1) (hc3 : k0_cond4 i = 1#1) (hc4 : ¬atRowStart i)
    (o : Vec F S64x8192 .f32) (a : Vec F S64x106496 .f32) (s : Vec F S64x128 .f32)
    (E : Set ℕ) (K : PUnit → sProp 𝕄) :
    iprop(owns (c : Thread nD τ) arg7 fullShare o ∗ owns (c : Thread nD τ) arg8 fullShare a ∗ owns (c : Thread nD τ) arg10 fullShare s
        ∗ (iprop(owns (c : Thread nD τ) arg7 fullShare (scaled i hc3 a s) ∗ owns (c : Thread nD τ) arg8 fullShare a ∗ owns (c : Thread nD τ) arg10 fullShare s) -∗ K ⟨⟩))
      ⊢ wp frame (wpE (defs₀ (F := F)) Variants.none c none) E (cc0__body i arg2 harg2 arg3 harg3 arg4 harg4 arg5 harg5 arg6 harg6 arg7 harg7 arg8 harg8 arg9 harg9 arg10 harg10) K := by
  simp only [cc0__body_eq_skeleton]; unfold cc0__body_skel
  unfold owns
  iintro ⟨⟨%f7, %hf7, H7⟩, ⟨%f8, %hf8, H8⟩, ⟨%f10, %hf10, H10⟩, Hk⟩
  obtain rfl := harg7.eq_unread hf7; obtain rfl := harg8.eq_unread hf8; obtain rfl := harg10.eq_unread hf10
  sl_exec (disch := first | sl_exact hc0 | sl_exact hc1 | sl_exact hc2 | sl_exact hc3 | sl_exact hc4)
  sl_step
  iapply Hk
  isplitl [H7]
  · iexists _; isplitr; swap; · iexact H7
    ipureintro
    refine (View.read_writes_full arg7.view _ _ _ _).trans ?_
    unfold scaled
    rw [View.readAt_unit _ _ _ rfl (k0_off3_inb i hc3), View.readAt_unit _ _ _ rfl inb_S64x128_S64x1_0_0, hf8, hf10]
  isplitl [H8]
  · iexists _; isplitr; swap; · iexact H8
    ipureintro; exact harg8.read_unread _
  · iexists _; isplitr; swap; · iexact H10
    ipureintro; exact harg10.read_unread _

end Cert.KernelIdeal.Body

end
-- ==== Proof.Data.lean ====
module

public import proofs.«01_k».proof.Proof.Body
public import Idealize.ShloMosaic.Lib.Pipeline.Frame
public import Idealize.ShloMosaic.Lib.WordCmp

/-!
The kernel over its whole grid. `St c n` is what is claimed of the three scratch buffers before point `n`, `Out c t` what is
claimed of the output's staging buffer after point `t` of the second pass; `Steps` says that each of the five ways the body
runs carries them on. From `Steps` follows the run: it ends, its arguments are unchanged, its counters are at zero, and every
output block is one `Out` allows.
-/

@[expose] public section

set_option maxRecDepth 16384

noncomputable section

namespace Cert.KernelIdeal.Data

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Cert.KernelIdeal.Gen Cert.KernelIdeal.Body

variable {F : FTy → Type} [FloatOps F]

local notation "𝕄" => MT nD τ sig Unit (Elt F) ℕ (UR sig nD τ) ℕ

/-! ## Which branches a point takes -/

/-- The grid has 26 points. -/
theorem lt_N (t : Fin cfg0.N) : t.val < 26 := Nat.lt_of_lt_of_eq t.isLt N_0

/-- The grid's second coordinate at a point. -/
theorem coord1 (t : Fin cfg0.N) : (grid0.coords t 1).val = t.val % 13 := by
  have e1 : (grid0.coords t 1).val = t.val / 1 % 13 := Pipeline.Grid.coords_val t 1 (by decide) rfl
  rw [e1, Nat.div_one]

/-- The first branch is taken at point 0 only. -/
theorem atFirst_iff (t : Fin cfg0.N) : atFirst (grid0.coords t) ↔ t.val = 0 := by
  have ht := lt_N t
  have e0 : (grid0.coords t 0).val = t.val / 13 % 2 := Pipeline.Grid.coords_val t 0 (by decide) rfl
  simp only [atFirst, e0, coord1 t]
  word_cmp

/-- The inner branch of the second pass is taken where a pass starts. -/
theorem atRowStart_iff (t : Fin cfg0.N) : atRowStart (grid0.coords t) ↔ t.val % 13 = 0 := by
  have ht := lt_N t
  simp only [atRowStart, coord1 t]
  word_cmp

/-- The first pass scores a whole block at the points before 12, -/
theorem cond2_iff : ∀ t : Fin cfg0.N, k0_cond2 (grid0.coords t) = 1#1 ↔ t.val < 12 :=
  (by decide +kernel : ∀ t : Fin grid0.N, k0_cond2 (grid0.coords t) = 1#1 ↔ t.val < 12)

/-- the last, partial block at point 12, -/
theorem cond3_iff : ∀ t : Fin cfg0.N, k0_cond3 (grid0.coords t) = 1#1 ↔ t.val = 12 :=
  (by decide +kernel : ∀ t : Fin grid0.N, k0_cond3 (grid0.coords t) = 1#1 ↔ t.val = 12)

/-- and the second pass scales a block at the points from 13 on. -/
theorem cond4_iff : ∀ t : Fin cfg0.N, k0_cond4 (grid0.coords t) = 1#1 ↔ 13 ≤ t.val :=
  (by decide +kernel : ∀ t : Fin grid0.N, k0_cond4 (grid0.coords t) = 1#1 ↔ 13 ≤ t.val)

/-! ## What is claimed point by point -/

variable (m : (ℓ : Loc nD τ sig) → Buf (Elt F) ℓ)
  (St : Dev nD → ℕ → Vec F S64x106496 .f32 → Vec F S64x128 .bf16 → Vec F S64x128 .f32 → Prop)
  (Out : Dev nD → ℕ → Vec F S64x8192 .f32 → Prop)

/-- The projected mentions the first point computes from the four blocks it is handed. -/
def proj (c : Dev nD) (t : Fin cfg0.N) : Vec F S64x128 .bf16 :=
  k0_pay6 (iblk m c 0 t : Vec F S3x64 .i32) (iblk m c 1 t : Vec F S16x1024 .f32) (iblk m c 2 t : Vec F S128x2048 .f32) (iblk m c 3 t : Vec F S1x128 .f32)

/-- The entity block a point is handed: the rows inside the table over whatever (`d`) the buffer held. -/
def ents (c : Dev nD) (t : Fin cfg0.N) (d : Vec F S8192x128 .f32) : Vec F S8192x128 .f32 :=
  (cfg0.win 4).fill (cfg0.grid.coords t) d (iblk m c 4 t)

/-- Each way the body runs carries the claim on the scratch buffers to the next point, and the second pass writes an output
    block of which `Out` holds. -/
structure Steps : Prop where
  start : ∀ c a p s, St c 0 a p s
  first : ∀ c (t : Fin cfg0.N) a p s d, t.val = 0 → St c t.val a p s →
    St c (t.val + 1) (VecWindow.put a (k0_off1 (grid0.coords t)) S64x8192.size (k0_pay9 (proj m c t) (ents m c t d))) (proj m c t)
      (sums (proj m c t) (ents m c t d) (k0_pay1 k0_pay7))
  mid : ∀ c (t : Fin cfg0.N) a p s d, 0 < t.val → t.val < 12 → St c t.val a p s →
    St c (t.val + 1) (VecWindow.put a (k0_off1 (grid0.coords t)) S64x8192.size (k0_pay9 p (ents m c t d))) p (sums p (ents m c t d) s)
  last : ∀ c (t : Fin cfg0.N) a p s d, t.val = 12 → St c t.val a p s →
    St c (t.val + 1) (VecWindow.put a (k0_off2 (grid0.coords t)) S64x8192.size (k0_pay13 p (ents m c t d))) p (sumsLast p (ents m c t d) s)
  turn : ∀ c (t : Fin cfg0.N) a p s (h : k0_cond4 (grid0.coords t) = 1#1), t.val = 13 → St c t.val a p s →
    St c (t.val + 1) a p (k0_pay4 s) ∧ Out c t.val (scaled (grid0.coords t) h a (k0_pay4 s))
  scale : ∀ c (t : Fin cfg0.N) a p s (h : k0_cond4 (grid0.coords t) = 1#1), 13 < t.val → St c t.val a p s →
    St c (t.val + 1) a p s ∧ Out c t.val (scaled (grid0.coords t) h a s)

/-! ## The pipeline's proof data -/

/-- The scratch buffers, at contents of which `St c n` holds. -/
def Inv (c : Dev nD) (n : ℕ) : sProp 𝕄 :=
  iprop(∃ a p s, ⌜St c n a p s⌝ ∗ owns (c : Thread nD τ) (Memref.whole cc0_scratch0) fullShare a
    ∗ owns (c : Thread nD τ) (Memref.whole cc0_scratch1) fullShare p
    ∗ owns (c : Thread nD τ) (Memref.whole cc0_scratch2) fullShare s
    ∗ (∃ r, prngReg c r))

/-- The proof data: the arrays as the region finds them, every input buffer left as found, the output's buffer left as `Out`
    says in the second pass, the scratch buffers as `St` says, nothing owed. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => 13 ≤ t.val → Out c t.val X
  Φ t := Inv St c t.val
  q _ := fullShare
  owed _ := 0

theorem A_eq (c : Dev nD) (w : Fin cfg0.W) : (rdat m St Out c).A w = V m c (Pipeline.arrRef spec0 w) := by
  dsimp only [rdat]

theorem after_0 (c : Dev nD) (t : Fin cfg0.N) (Y X) : (rdat m St Out c).after 0 t Y X ↔ X = Y := Iff.rfl
theorem after_1 (c : Dev nD) (t : Fin cfg0.N) (Y X) : (rdat m St Out c).after 1 t Y X ↔ X = Y := Iff.rfl
theorem after_2 (c : Dev nD) (t : Fin cfg0.N) (Y X) : (rdat m St Out c).after 2 t Y X ↔ X = Y := Iff.rfl
theorem after_3 (c : Dev nD) (t : Fin cfg0.N) (Y X) : (rdat m St Out c).after 3 t Y X ↔ X = Y := Iff.rfl
theorem after_4 (c : Dev nD) (t : Fin cfg0.N) (Y X) : (rdat m St Out c).after 4 t Y X ↔ X = Y := Iff.rfl
theorem after_5 (c : Dev nD) (t : Fin cfg0.N) (Y X) : (rdat m St Out c).after 5 t Y X ↔ (13 ≤ t.val → Out c t.val X) := Iff.rfl

/-- The four whole inputs are handed over as their blocks, wherever they were fetched. -/
theorem found_0 (c : Dev nD) (t : Fin cfg0.N) (Y) (h : (rdat m St Out c).Finds 0 t Y) : Y = iblk m c 0 t := by
  obtain ⟨d, hd⟩ := (rdat m St Out c).finds_in_eq_fetched 0 rfl (fun _ _ _ => rfl) (fun t Y X => (after_0 m St Out c t Y X).mp) t Y h
  rw [hd]; unfold RDat.fetched RDat.blockOf iblk; rw [A_eq]; rfl
theorem found_1 (c : Dev nD) (t : Fin cfg0.N) (Y) (h : (rdat m St Out c).Finds 1 t Y) : Y = iblk m c 1 t := by
  obtain ⟨d, hd⟩ := (rdat m St Out c).finds_in_eq_fetched 1 rfl (fun _ _ _ => rfl) (fun t Y X => (after_1 m St Out c t Y X).mp) t Y h
  rw [hd]; unfold RDat.fetched RDat.blockOf iblk; rw [A_eq]; rfl
theorem found_2 (c : Dev nD) (t : Fin cfg0.N) (Y) (h : (rdat m St Out c).Finds 2 t Y) : Y = iblk m c 2 t := by
  obtain ⟨d, hd⟩ := (rdat m St Out c).finds_in_eq_fetched 2 rfl (fun _ _ _ => rfl) (fun t Y X => (after_2 m St Out c t Y X).mp) t Y h
  rw [hd]; unfold RDat.fetched RDat.blockOf iblk; rw [A_eq]; rfl
theorem found_3 (c : Dev nD) (t : Fin cfg0.N) (Y) (h : (rdat m St Out c).Finds 3 t Y) : Y = iblk m c 3 t := by
  obtain ⟨d, hd⟩ := (rdat m St Out c).finds_in_eq_fetched 3 rfl (fun _ _ _ => rfl) (fun t Y X => (after_3 m St Out c t Y X).mp) t Y h
  rw [hd]; unfold RDat.fetched RDat.blockOf iblk; rw [A_eq]; rfl

/-- The entity window is fetched at every point of the first pass. -/
theorem fetch_4 : ∀ t : Fin cfg0.N, t.val < 13 → (cfg0.win 4).fetch t = true :=
  (by decide +kernel : ∀ t : Fin grid0.N, t.val < 13 → win0_4.fetch t = true)

/-- So there the body is handed the point's entity block, its rows past the table's end unnamed. -/
theorem found_4 (c : Dev nD) (t : Fin cfg0.N) (ht : t.val < 13) (Y) (h : (rdat m St Out c).Finds 4 t Y) : ∃ d, Y = ents m c t d := by
  obtain ⟨d, hd⟩ := ((rdat m St Out c).finds_of_fetch (fetch_4 t ht) Y).mp h
  refine ⟨d, hd.trans ?_⟩
  unfold RDat.fetched RDat.blockOf ents iblk; rw [A_eq]

/-! ## The body obligation -/

/-- What the body is called with at point `t`, -/
def bodyPre (c : Dev nD) (t : Fin cfg0.N) (Y : (w : Fin cfg0.W) → (cfg0.win w).block.Idx → Elt F (cfg0.win w).elt) : sProp 𝕄 :=
  iprop(Inv St c t.val ∗ (rdat m St Out c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5))

/-- and what it returns. -/
def bodyPost (c : Dev nD) (t : Fin cfg0.N) (Y : (w : Fin cfg0.W) → (cfg0.win w).block.Idx → Elt F (cfg0.win w).elt) : sProp 𝕄 :=
  iprop(Inv St c (t.val + 1) ∗ (rdat m St Out c).owesAt () t.castSucc
    ∗ (∃ X, ⌜X = Y 0⌝ ∗ owns (c : Thread nD τ) (st0_0 t) fullShare X)
    ∗ (∃ X, ⌜X = Y 1⌝ ∗ owns (c : Thread nD τ) (st0_1 t) fullShare X)
    ∗ (∃ X, ⌜X = Y 2⌝ ∗ owns (c : Thread nD τ) (st0_2 t) fullShare X)
    ∗ (∃ X, ⌜X = Y 3⌝ ∗ owns (c : Thread nD τ) (st0_3 t) fullShare X)
    ∗ (∃ X, ⌜X = Y 4⌝ ∗ owns (c : Thread nD τ) (st0_4 t) fullShare X)
    ∗ (∃ X, ⌜13 ≤ t.val → Out c t.val X⌝ ∗ owns (c : Thread nD τ) (st0_5 t) fullShare X))

variable {m St Out}

set_option maxHeartbeats 4000000 in
/-- The first point. -/
theorem sound_first (hS : Steps m St Out) (c : Dev nD) (t : Fin cfg0.N) (h0 : t.val = 0) (Y) (hY : ∀ w, (rdat m St Out c).Finds w t (Y w)) :
    bodyPre m St Out c t Y ⊢ wp frame (wpE (defs₀ (F := F)) Variants.none c none) Set.univ (bodyAt0 t) (fun _ => bodyPost m St Out c t Y) := by
  unfold bodyPre bodyPost bodyAt0 Inv
  have e0 := found_0 m St Out c t _ (hY 0); have e1 := found_1 m St Out c t _ (hY 1)
  have e2 := found_2 m St Out c t _ (hY 2); have e3 := found_3 m St Out c t _ (hY 3)
  obtain ⟨d, e4⟩ := found_4 m St Out c t (by omega) _ (hY 4)
  iintro ⟨⟨%a, %p, %s, %hs, S0, S1, S2, Hr⟩, Ho, H0, H1, H2, H3, H4, H5⟩
  iapply (run_first c (grid0.coords t) _ _ _ _ _ _ _ _ _ _ _ _ _ _ _ _ _ _ ((atFirst_iff t).mpr h0) ((cond2_iff t).mpr (by omega))
    (fun h => absurd ((cond3_iff t).mp h) (by omega)) (fun h => absurd ((cond4_iff t).mp h) (by omega)) (Y 0) (Y 1) (Y 2) (Y 3) (Y 4) a p s Set.univ _)
  isplitl [H0]; · iexact H0
  isplitl [H1]; · iexact H1
  isplitl [H2]; · iexact H2
  isplitl [H3]; · iexact H3
  isplitl [H4]; · iexact H4
  isplitl [S0]; · iexact S0
  isplitl [S1]; · iexact S1
  isplitl [S2]; · iexact S2
  iintro ⟨H0, H1, H2, H3, H4, S0, S1, S2⟩
  isplitl [S0 S1 S2 Hr]
  · iexists _; iexists _; iexists _
    isplitr [S0 S1 S2 Hr]
    · ipureintro
      have := hS.first c t a p s d h0 hs
      unfold proj at this
      rw [← e0, ← e1, ← e2, ← e3, ← e4] at this
      exact this
    isplitl [S0]; · iexact S0
    isplitl [S1]; · iexact S1
    isplitl [S2]; · iexact S2
    iexact Hr
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _; isplitr; swap; · iexact H5
  ipureintro; intro h; exact absurd h (by omega)

set_option maxHeartbeats 4000000 in
/-- A later point of the first pass, before its last. -/
theorem sound_mid (hS : Steps m St Out) (c : Dev nD) (t : Fin cfg0.N) (h0 : 0 < t.val) (h1 : t.val < 12) (Y) (hY : ∀ w, (rdat m St Out c).Finds w t (Y w)) :
    bodyPre m St Out c t Y ⊢ wp frame (wpE (defs₀ (F := F)) Variants.none c none) Set.univ (bodyAt0 t) (fun _ => bodyPost m St Out c t Y) := by
  unfold bodyPre bodyPost bodyAt0 Inv
  obtain ⟨d, e4⟩ := found_4 m St Out c t (by omega) _ (hY 4)
  iintro ⟨⟨%a, %p, %s, %hs, S0, S1, S2, Hr⟩, Ho, H0, H1, H2, H3, H4, H5⟩
  iapply (run_mid c (grid0.coords t) _ _ _ _ _ _ _ _ _ _ _ _ _ _ _ _ _ _ (fun h => absurd ((atFirst_iff t).mp h) (by omega)) ((cond2_iff t).mpr (by omega)) (fun h => absurd ((cond3_iff t).mp h) (by omega)) (fun h => absurd ((cond4_iff t).mp h) (by omega)) (Y 4) a p s Set.univ _)
  isplitl [H4]; · iexact H4
  isplitl [S0]; · iexact S0
  isplitl [S1]; · iexact S1
  isplitl [S2]; · iexact S2
  iintro ⟨H4, S0, S1, S2⟩
  isplitl [S0 S1 S2 Hr]
  · iexists _; iexists _; iexists _
    isplitr [S0 S1 S2 Hr]
    · ipureintro
      have := hS.mid c t a p s d h0 h1 hs
      rw [← e4] at this
      exact this
    isplitl [S0]; · iexact S0
    isplitl [S1]; · iexact S1
    isplitl [S2]; · iexact S2
    iexact Hr
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _; isplitr; swap; · iexact H5
  ipureintro; intro h; exact absurd h (by omega)

set_option maxHeartbeats 4000000 in
/-- The first pass's last point. -/
theorem sound_last (hS : Steps m St Out) (c : Dev nD) (t : Fin cfg0.N) (h0 : t.val = 12) (Y) (hY : ∀ w, (rdat m St Out c).Finds w t (Y w)) :
    bodyPre m St Out c t Y ⊢ wp frame (wpE (defs₀ (F := F)) Variants.none c none) Set.univ (bodyAt0 t) (fun _ => bodyPost m St Out c t Y) := by
  unfold bodyPre bodyPost bodyAt0 Inv
  obtain ⟨d, e4⟩ := found_4 m St Out c t (by omega) _ (hY 4)
  iintro ⟨⟨%a, %p, %s, %hs, S0, S1, S2, Hr⟩, Ho, H0, H1, H2, H3, H4, H5⟩
  iapply (run_last c (grid0.coords t) _ _ _ _ _ _ _ _ _ _ _ _ _ _ _ _ _ _ (fun h => absurd ((atFirst_iff t).mp h) (by omega)) (fun h => absurd ((cond2_iff t).mp h) (by omega)) ((cond3_iff t).mpr (by omega)) (fun h => absurd ((cond4_iff t).mp h) (by omega)) (Y 4) a p s Set.univ _)
  isplitl [H4]; · iexact H4
  isplitl [S0]; · iexact S0
  isplitl [S1]; · iexact S1
  isplitl [S2]; · iexact S2
  iintro ⟨H4, S0, S1, S2⟩
  isplitl [S0 S1 S2 Hr]
  · iexists _; iexists _; iexists _
    isplitr [S0 S1 S2 Hr]
    · ipureintro
      have := hS.last c t a p s d h0 hs
      rw [← e4] at this
      exact this
    isplitl [S0]; · iexact S0
    isplitl [S1]; · iexact S1
    isplitl [S2]; · iexact S2
    iexact Hr
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _; isplitr; swap; · iexact H5
  ipureintro; intro h; exact absurd h (by omega)

set_option maxHeartbeats 4000000 in
/-- The second pass's first point. -/
theorem sound_turn (hS : Steps m St Out) (c : Dev nD) (t : Fin cfg0.N) (h0 : t.val = 13) (Y) (hY : ∀ w, (rdat m St Out c).Finds w t (Y w)) :
    bodyPre m St Out c t Y ⊢ wp frame (wpE (defs₀ (F := F)) Variants.none c none) Set.univ (bodyAt0 t) (fun _ => bodyPost m St Out c t Y) := by
  unfold bodyPre bodyPost bodyAt0 Inv
  iintro ⟨⟨%a, %p, %s, %hs, S0, S1, S2, Hr⟩, Ho, H0, H1, H2, H3, H4, H5⟩
  iapply (run_turn c (grid0.coords t) _ _ _ _ _ _ _ _ _ _ _ _ _ _ _ _ _ _ (fun h => absurd ((atFirst_iff t).mp h) (by omega)) (fun h => absurd ((cond2_iff t).mp h) (by omega)) (fun h => absurd ((cond3_iff t).mp h) (by omega)) ((cond4_iff t).mpr (by omega)) ((atRowStart_iff t).mpr (by omega)) (Y 5) a s Set.univ _)
  isplitl [H5]; · iexact H5
  isplitl [S0]; · iexact S0
  isplitl [S2]; · iexact S2
  iintro ⟨H5, S0, S2⟩
  isplitl [S0 S1 S2 Hr]
  · iexists _; iexists _; iexists _
    isplitr [S0 S1 S2 Hr]
    · ipureintro
      exact (hS.turn c t a p s ((cond4_iff t).mpr (by omega)) h0 hs).1
    isplitl [S0]; · iexact S0
    isplitl [S1]; · iexact S1
    isplitl [S2]; · iexact S2
    iexact Hr
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _; isplitr; swap; · iexact H5
  ipureintro; intro _; exact (hS.turn c t a p s ((cond4_iff t).mpr (by omega)) h0 hs).2

set_option maxHeartbeats 4000000 in
/-- A later point of the second pass. -/
theorem sound_scale (hS : Steps m St Out) (c : Dev nD) (t : Fin cfg0.N) (h0 : 13 < t.val) (Y) (hY : ∀ w, (rdat m St Out c).Finds w t (Y w)) :
    bodyPre m St Out c t Y ⊢ wp frame (wpE (defs₀ (F := F)) Variants.none c none) Set.univ (bodyAt0 t) (fun _ => bodyPost m St Out c t Y) := by
  unfold bodyPre bodyPost bodyAt0 Inv
  iintro ⟨⟨%a, %p, %s, %hs, S0, S1, S2, Hr⟩, Ho, H0, H1, H2, H3, H4, H5⟩
  iapply (run_scale c (grid0.coords t) _ _ _ _ _ _ _ _ _ _ _ _ _ _ _ _ _ _ (fun h => absurd ((atFirst_iff t).mp h) (by omega)) (fun h => absurd ((cond2_iff t).mp h) (by omega)) (fun h => absurd ((cond3_iff t).mp h) (by omega)) ((cond4_iff t).mpr (by omega)) (fun h => absurd ((atRowStart_iff t).mp h) (by have := lt_N t; omega)) (Y 5) a s Set.univ _)
  isplitl [H5]; · iexact H5
  isplitl [S0]; · iexact S0
  isplitl [S2]; · iexact S2
  iintro ⟨H5, S0, S2⟩
  isplitl [S0 S1 S2 Hr]
  · iexists _; iexists _; iexists _
    isplitr [S0 S1 S2 Hr]
    · ipureintro
      exact (hS.scale c t a p s ((cond4_iff t).mpr (by omega)) h0 hs).1
    isplitl [S0]; · iexact S0
    isplitl [S1]; · iexact S1
    isplitl [S2]; · iexact S2
    iexact Hr
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  iexists _; isplitr; swap; · iexact H5
  ipureintro; intro _; exact (hS.scale c t a p s ((cond4_iff t).mpr (by omega)) h0 hs).2

/-- Any point. -/
theorem sound_body (hS : Steps m St Out) (c : Dev nD) (t : Fin cfg0.N) (Y) (hY : ∀ w, (rdat m St Out c).Finds w t (Y w)) :
    bodyPre m St Out c t Y ⊢ wp frame (wpE (defs₀ (F := F)) Variants.none c none) Set.univ (bodyAt0 t) (fun _ => bodyPost m St Out c t Y) := by
  rcases (by omega : t.val = 0 ∨ (0 < t.val ∧ t.val < 12) ∨ t.val = 12 ∨ t.val = 13 ∨ 13 < t.val) with h | ⟨h, h'⟩ | h | h | h
  · exact sound_first hS c t h Y hY
  · exact sound_mid hS c t h h' Y hY
  · exact sound_last hS c t h Y hY
  · exact sound_turn hS c t h Y hY
  · exact sound_scale hS c t h Y hY

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body meets its obligation at every point. -/
theorem body_obligation (hS : Steps m St Out) (c : Dev nD) :
    (rdat m St Out c).BodyObligation (defs₀ (F := F)) Variants.none () Set.univ := fun t Y hY => by
  rw [bigSep_W0, bigSep_W0, defs₀_row]
  exact triple_restated (sound_body hS c t Y hY) rfl .rfl fun _ => .rfl

/-! ## The launch -/

/-- The scratch buffers at anything, and the generator register. -/
theorem PhiA_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)
          ∗ (∃ d, owns (c : Thread nD τ) (Memref.whole cc0_scratch2) fullShare d)) ∗ (∃ r, prngReg c r)) := by
  unfold Pipeline.ΦA; rw [scopedRest0_eq]; simp only [owns_whole]; try rfl

/-- What the launch hands over is the claim before the first point, -/
theorem hin (hS : Steps m St Out) (c : Dev nD) : Pipeline.ΦA spec0 c ⊢ (rdat m St Out c).Φ 0 := by
  show _ ⊢ Inv St c 0
  rw [PhiA_eq]; unfold Inv
  iintro ⟨⟨⟨%a, S0⟩, ⟨%p, S1⟩, ⟨%s, S2⟩⟩, Hr⟩
  iexists a; iexists p; iexists s
  isplitr [S0 S1 S2 Hr]
  · ipureintro; exact hS.start c a p s
  isplitl [S0]; · iexact S0
  isplitl [S1]; · iexact S1
  isplitl [S2]; · iexact S2
  iexact Hr

/-- and what it takes back is the claim after the last, its contents forgotten. -/
theorem hout (c : Dev nD) : (rdat m St Out c).Φ (Fin.last cfg0.N) ⊢ Pipeline.ΦA spec0 c := by
  show Inv St c (Fin.last cfg0.N).val ⊢ _
  rw [PhiA_eq]; unfold Inv
  iintro ⟨%a, %p, %s, -, S0, S1, S2, Hr⟩
  isplitl [S0 S1 S2]
  · isplitl [S0]; · iexists _; iexact S0
    isplitl [S1]; · iexists _; iexact S1
    iexists _; iexact S2
  iexact Hr

variable (ρ : Dev nD → PrngReg)

set_option backward.isDefEq.respectTransparency.types false in
/-- The run: it ends, every buffer is as the proof data says and every counter is at zero. -/
theorem run (hS : Steps m St Out) : θ_run defs (onTc (τ := τ) (main (F := F))) (s₀ m ρ)
    (fun r => (Pipeline.RDat.FramePost (cfgs 0) (fun c => rdat m St Out c) (V m)) r ∧ r.2.sem = fun _ => 0) :=
  Pipeline.RDat.θ_run_frame_track (Q' := _) cfgs (0 : Fin 1) launch0 defs₀ Variants.none (fun c => rdat m St Out c) m ρ main
    (hbody := fun c => body_obligation hS c) (hshare := fun c => (rdat m St Out c).share_full fun _ => rfl)
    (howed := fun _ _ => rfl) (V := V m) (hmain := hmain m Variants.none) (hA := fun c w => A_eq m St Out c w)
    (hin := fun c => hin hS c) (hout := fun c => hout c)

/-- What the run's post says of the arguments: they are unchanged. -/
theorem args_kept {r : PUnit × MemSt nD τ sig (Elt F)} (h : Pipeline.RDat.FramePost (cfgs 0) (fun c => rdat m St Out c) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    (RDat.FramePost.arr_in h c 0 rfl).trans ((A_eq m St Out c 0).trans (V_main_arg3 m c)),
    (RDat.FramePost.arr_in h c 2 rfl).trans ((A_eq m St Out c 2).trans (V_main_arg4 m c)),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩

/-! ## The run with nothing claimed of the contents -/

/-- Nothing claimed is carried on. -/
theorem steps_true : Steps m (fun _ _ _ _ _ => True) (fun _ _ _ => True) where
  start _ _ _ _ := trivial
  first _ _ _ _ _ _ _ _ := trivial
  mid _ _ _ _ _ _ _ _ _ := trivial
  last _ _ _ _ _ _ _ _ := trivial
  turn _ _ _ _ _ _ _ _ := ⟨trivial, trivial⟩
  scale _ _ _ _ _ _ _ _ := ⟨trivial, trivial⟩

/-- The kernel ends from every memory with zero counters, its arguments unchanged and every counter at zero again. -/
theorem quiescent (m : (ℓ : Loc nD τ sig) → Buf (Elt F) ℓ) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_kept h.1, h.2⟩) (run (m := m) ρ steps_true)

end Cert.KernelIdeal.Data

end
-- ==== Proof.KernelRun.lean ====
module

public import proofs.«01_k».proof.Proof.Data
public import proofs.«01_k».proof.Proof.Gen.Kernel.Launch

/-!
The kernel as printed for the bits and as printed for the extended reals is one program, so what was shown of the second at any
float type holds of the first.
-/

@[expose] public section

noncomputable section

namespace Cert.Kernel.Run

open Idealize.ShloMosaic Idealize.ShloMosaic.TcCoe Idealize.SL Idealize.SL.Sem
open Cert.Kernel.Gen

variable {F : FTy → Type} [FloatOps F]

/-- The two body tables are one. -/
theorem defs₀_eq : defs₀ (F := F) = Cert.KernelIdeal.defs₀ (F := F) := by
  unfold defs₀ Cert.KernelIdeal.defs₀
  refine congrArg (Defs.onTc (nD := nD) (τ := τ) (sig := sig) (Val := Elt F) (Λ := Λ₀)) (funext fun l => funext fun a => ?_)
  match l, a with
  | 0, (t, s) => rfl

/-- And so the two tables with the pipeline's own labels. -/
theorem defs_eq : defs (F := F) = Cert.KernelIdeal.defs (F := F) :=
  congrArg (Pipeline.defs pcfgs) defs₀_eq

/-- The kernel ends from every memory with zero counters, its arguments unchanged and every counter at zero again. -/
theorem quiescent (m : (ℓ : Loc nD τ sig) → Buf (Elt F) ℓ) (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_eq]
  exact Cert.KernelIdeal.Data.quiescent (F := F) ρ m

end Cert.Kernel.Run

end
-- ==== Proof.Payload.lean ====
module

public import proofs.«01_k».proof.Proof.Body
public import Idealize.ShloMosaic.Lib.Pointwise

/-!
What the body's blocks of values are over the extended reals, element by element.
-/

@[expose] public section

set_option maxRecDepth 16384

noncomputable section

namespace Cert.KernelIdeal.Payload

open Idealize.ShloMosaic Idealize.ShloMosaic.TcCoe
open Cert.KernelIdeal.Gen Cert.KernelIdeal.Body

/-- A scored block: the exponential of the row's projected mention against the entity. -/
theorem pay8_apply (p : Vec Ideal S64x128 .bf16) (x : Vec Ideal S8192x128 .f32) (r : Fin 64) (q : Fin 8192) :
    k0_pay8 p x (ix2 r q) = Ideal.exp (∑ k : Fin 128, p (ix2 r k) * x (ix2 q k)) := by
  unfold_payloads
  pointwise

/-- The same as stored. -/
theorem pay9_apply (p : Vec Ideal S64x128 .bf16) (x : Vec Ideal S8192x128 .f32) (r : Fin 64) (q : Fin 8192) :
    k0_pay9 p x (ix2 r q) = Ideal.exp (∑ k : Fin 128, p (ix2 r k) * x (ix2 q k)) := by
  unfold_payloads
  pointwise

/-- A signed comparison of two small naturals' words is the naturals' comparison. -/
theorem slt_small (n : ℕ) (hn : n < 8192) :
    IntOp.cmpi CmpIPredicate.slt (IntOp.addi (98304#32) (BitVec.ofNat 32 n)) 100000#32 = BitVec.ofBool (decide (98304 + n < 100000)) := by
  unfold IntOp.cmpi IntOp.addi
  congr 1
  rw [Bool.eq_iff_iff]
  simp only [BitVec.slt_eq_decide, decide_eq_true_eq]
  have h1 : (98304#32 + BitVec.ofNat 32 n).toNat = 98304 + n := by
    rw [BitVec.toNat_add, BitVec.toNat_ofNat, BitVec.toNat_ofNat]; omega
  have h2 : (98304#32 + BitVec.ofNat 32 n).toInt = (98304 + n : ℕ) := by
    rw [BitVec.toInt_eq_toNat_of_lt (by rw [h1]; omega), h1]
  rw [h2]
  have h3 : (100000#32).toInt = 100000 := by decide
  rw [h3]; omega

/-- The last scored block, zero past the vocabulary's end. -/
theorem pay12_apply (p : Vec Ideal S64x128 .bf16) (x : Vec Ideal S8192x128 .f32) (r : Fin 64) (q : Fin 8192) :
    k0_pay12 p x (ix2 r q) = if 98304 + q.val < 100000 then Ideal.exp (∑ k : Fin 128, p (ix2 r k) * x (ix2 q k)) else 0 := by
  unfold_payloads
  pointwise
  rw [slt_small q.val q.isLt]
  by_cases h : 98304 + q.val < 100000
  · rw [if_pos h]; simp [h, Scalar.select]
  · rw [if_neg h]; simp [h, Scalar.select]

/-- The same as stored. -/
theorem pay13_apply (p : Vec Ideal S64x128 .bf16) (x : Vec Ideal S8192x128 .f32) (r : Fin 64) (q : Fin 8192) :
    k0_pay13 p x (ix2 r q) = k0_pay12 p x (ix2 r q) := by
  unfold k0_pay13
  pointwise

/-- The reciprocal of a row's total, in every lane. -/
theorem pay4_apply (s : Vec Ideal S64x128 .f32) (r : Fin 64) (q : Fin 128) :
    k0_pay4 s (ix2 r q) = Ideal.div 1 (∑ k : Fin 128, s (ix2 r k)) := by
  unfold_payloads
  pointwise

/-- A block scaled by a value per row. -/
theorem pay5_apply (a : Vec Ideal S64x8192 .f32) (s : Vec Ideal S64x1 .f32) (r : Fin 64) (q : Fin 8192) :
    k0_pay5 a s (ix2 r q) = a (ix2 r q) * s (ix2 r 0) := by
  unfold_payloads
  pointwise

/-- The lane sums start from zero. -/
theorem pay1_apply (r : Fin 64) (l : Fin 128) : (k0_pay1 k0_pay7 : FVec Ideal S64x128 .f32) (ix2 r l) = 0 := by
  unfold_payloads
  pointwise

/-- A block adds to lane `l` the sum of its 64 columns of that lane. -/
theorem sums_apply (p : Vec Ideal S64x128 .bf16) (x : Vec Ideal S8192x128 .f32) (s : Vec Ideal S64x128 .f32) (r : Fin 64) (l : Fin 128) :
    sums p x s (ix2 r l) = s (ix2 r l) + ∑ j : Fin 64, k0_pay8 p x (ix2 r ⟨128 * j.val + l.val, by omega⟩) := by
  unfold sums
  generalize hg : k0_pay8 p x = g
  unfold k0_pay10
  simp only [hg]
  unfold k0_pay2 k0_pay11
  pointwise
  simp only [Fin.sum_univ_castSucc, Fin.sum_univ_zero, ← add_assoc, add_zero]
  simp only [Fin.val_castSucc, Fin.val_last, Nat.mul_zero, Nat.reduceMul, Nat.zero_add]

/-- So does the last block. -/
theorem sumsLast_apply (p : Vec Ideal S64x128 .bf16) (x : Vec Ideal S8192x128 .f32) (s : Vec Ideal S64x128 .f32) (r : Fin 64) (l : Fin 128) :
    sumsLast p x s (ix2 r l) = s (ix2 r l) + ∑ j : Fin 64, k0_pay12 p x (ix2 r ⟨128 * j.val + l.val, by omega⟩) := by
  unfold sumsLast
  generalize hg : k0_pay12 p x = g
  unfold k0_pay14
  simp only [hg]
  unfold k0_pay3 k0_pay15
  pointwise
  simp only [Fin.sum_univ_castSucc, Fin.sum_univ_zero, ← add_assoc, add_zero]
  simp only [Fin.val_castSucc, Fin.val_last, Nat.mul_zero, Nat.reduceMul, Nat.zero_add]

/-- A comparison's bit, widened and read as a number. -/
theorem indicator (a b : BitVec 32) :
    (FloatOps.sitofp .f32 (BitVec.setWidth 32 (IntOp.cmpi CmpIPredicate.eq a b)) : Ideal .f32) = if a = b then (1 : EReal) else 0 := by
  by_cases h : a = b
  · subst h
    rw [if_pos rfl]
    simp [IntOp.cmpi, FloatOps.sitofp]
  · rw [if_neg h]
    have hb : (a == b) = false := by simpa using h
    simp [IntOp.cmpi, FloatOps.sitofp, hb]

/-- A one-hot row against 16 values names the value at the key. -/
theorem oneHot_sum (key : BitVec 32) (hk : key.toNat < 16) (f : Fin 16 → Ideal .f32) :
    ∑ x : Fin 16, (FloatOps.sitofp (F := Ideal) .f32 (BitVec.setWidth 32 (IntOp.cmpi CmpIPredicate.eq (BitVec.ofNat 32 x.val) key))) * f x = f ⟨key.toNat, hk⟩ := by
  rw [Finset.sum_eq_single (⟨key.toNat, hk⟩ : Fin 16)]
  · rw [indicator, if_pos (by simp), one_mul]
  · intro x _ hx
    rw [indicator, if_neg, zero_mul]
    intro h; apply hx; apply Fin.ext
    show x.val = key.toNat
    rw [← h, BitVec.toNat_ofNat]
    omega
  · intro h; exact absurd (Finset.mem_univ _) h

/-- The key of a batch and a token. -/
theorem key_toNat (a b : BitVec 32) (ha : a.toNat < 4) (hb : b.toNat < 4) : (IntOp.addi (IntOp.muli a 4#32) b).toNat = 4 * a.toNat + b.toNat := by
  unfold IntOp.addi IntOp.muli
  rw [BitVec.toNat_add, BitVec.toNat_mul, BitVec.toNat_ofNat]; omega

/-- The projected mentions: each of the two tokens' rows against its half of the weights, and the bias. -/
theorem pay6_apply (pos : Vec Ideal S3x64 .i32) (xs : Vec Ideal S16x1024 .f32) (w : Vec Ideal S128x2048 .f32) (b : Vec Ideal S1x128 .f32)
    (hp : ∀ a r, ((pos : S3x64.Idx → BitVec 32) (ix2 a r)).toNat < 4) (r : Fin 64) (k : Fin 128) :
    k0_pay6 pos xs w b (ix2 r k)
      = (∑ j : Fin 1024, xs (ix2 ⟨4 * ((pos : S3x64.Idx → BitVec 32) (ix2 0 r)).toNat + ((pos : S3x64.Idx → BitVec 32) (ix2 1 r)).toNat,
            by have := hp 0 r; have := hp 1 r; omega⟩ j) * w (ix2 k ⟨j.val, by omega⟩))
        + (∑ j : Fin 1024, xs (ix2 ⟨4 * ((pos : S3x64.Idx → BitVec 32) (ix2 0 r)).toNat + ((pos : S3x64.Idx → BitVec 32) (ix2 2 r)).toNat,
            by have := hp 0 r; have := hp 2 r; omega⟩ j) * w (ix2 k ⟨1024 + j.val, by omega⟩))
        + b (ix2 0 k) := by
  have h0 := hp 0 r; have h1 := hp 1 r; have h2 := hp 2 r
  have e1 := key_toNat _ _ h0 h1; have e2 := key_toNat _ _ h0 h2
  unfold_payloads
  pointwise
  erw [oneHot_sum _ (by rw [e1]; omega), oneHot_sum _ (by rw [e2]; omega)]
  simp only [e1, e2]

end Cert.KernelIdeal.Payload

end
-- ==== Proof.Model.lean ====
module

public import Idealize.ShloMosaic.Lib.Pointwise

/-!
The function both programs compute: each mention is the projection of two token rows, its score against an entity is an inner
product, and the result is the softmax of the scores over the entities, here without the maximum subtracted.
-/

@[expose] public section

noncomputable section

namespace Cert.Model

open Idealize.ShloMosaic

abbrev Tokens := (⟨3, ![4, 2048, 1024]⟩ : Shape).Idx → EReal
abbrev Positions := (⟨2, ![3, 64]⟩ : Shape).Idx → BitVec 32
abbrev Weights := (⟨2, ![128, 2048]⟩ : Shape).Idx → EReal
abbrev Bias := (⟨1, ![128]⟩ : Shape).Idx → EReal
abbrev Entities := (⟨2, ![128, 100000]⟩ : Shape).Idx → EReal

/-- The batch (row 0) or token (rows 1 and 2) a mention names. -/
def at4 (pos : Positions) (a : Fin 3) (r : Fin 64) : Fin 4 := ⟨(pos (ix2 a r)).toNat % 4, Nat.mod_lt _ (by decide)⟩

/-- Element `j` of the token row that row `a` of the positions names for mention `r`. -/
def token (X : Tokens) (pos : Positions) (a : Fin 3) (r : Fin 64) (j : Fin 1024) : EReal :=
  X (ix3 (at4 pos 0 r) ⟨(at4 pos a r).val, by have := (at4 pos a r).isLt; omega⟩ j)

/-- Mention `r`, projected. -/
def mention (X : Tokens) (pos : Positions) (W : Weights) (b : Bias) (r : Fin 64) (k : Fin 128) : EReal :=
  (∑ j : Fin 1024, token X pos 1 r j * W (ix2 k ⟨j.val, by omega⟩))
    + (∑ j : Fin 1024, token X pos 2 r j * W (ix2 k ⟨1024 + j.val, by omega⟩)) + b (ix1 k)

/-- The score of mention `r` against entity `v`. -/
def score (X : Tokens) (pos : Positions) (W : Weights) (b : Bias) (E : Entities) (r : Fin 64) (v : Fin 100000) : EReal :=
  ∑ k : Fin 128, mention X pos W b r k * E (ix2 k v)

variable (s : Fin 64 → Fin 100000 → EReal)

/-- The exponential of a score `s`, zero past the vocabulary's end. -/
def weight (r : Fin 64) (v : ℕ) : EReal := if h : v < 100000 then Ideal.exp (s r ⟨v, h⟩) else 0

/-- A row's total. -/
def total (r : Fin 64) : EReal := ∑ v : Fin 100000, Ideal.exp (s r v)

/-- The softmax, as the exponential times the reciprocal of the total. -/
def prob (r : Fin 64) (v : Fin 100000) : EReal := Ideal.exp (s r v) * Ideal.div 1 (total s r)

theorem weight_of_lt (r : Fin 64) (v : Fin 100000) : weight s r v.val = Ideal.exp (s r v) := by
  unfold weight; rw [dif_pos v.isLt]

theorem weight_of_ge (r : Fin 64) (v : ℕ) (h : 100000 ≤ v) : weight s r v = 0 := by
  unfold weight; rw [dif_neg (by omega)]

/-- Lane `l`'s sum over the first `n` blocks of 8192 columns. -/
def lane (r : Fin 64) (n : ℕ) (l : ℕ) : EReal := ∑ j ∈ Finset.range (64 * n), weight s r (128 * j + l)

theorem lane_zero (r : Fin 64) (l : ℕ) : lane s r 0 l = 0 := by
  unfold lane; rw [Nat.mul_zero, Finset.sum_range_zero]

/-- One block more adds its 64 columns of the lane. -/
theorem lane_succ (r : Fin 64) (n l : ℕ) :
    lane s r (n + 1) l = lane s r n l + ∑ j : Fin 64, weight s r (8192 * n + (128 * j.val + l)) := by
  unfold lane
  rw [show 64 * (n + 1) = 64 * n + 64 by omega, Finset.sum_range_add, Finset.sum_range (n := 64)]
  congr 1
  refine Finset.sum_congr rfl fun j _ => congrArg _ ?_
  omega

/-- Columns counted lane by lane are the columns counted in order. -/
theorem sum_lanes (f : ℕ → EReal) (n : ℕ) :
    ∑ l : Fin 128, ∑ j ∈ Finset.range n, f (128 * j + l.val) = ∑ v ∈ Finset.range (128 * n), f v := by
  induction n with
  | zero => simp
  | succ n ih =>
    simp only [Finset.sum_range_succ, Finset.sum_add_distrib]
    rw [ih, show 128 * (n + 1) = 128 * n + 128 by omega, Finset.sum_range_add, Finset.sum_range (n := 128)]

/-- The lanes of all 13 blocks add up to the total. -/
theorem sum_lane (r : Fin 64) : ∑ l : Fin 128, lane s r 13 l.val = total s r := by
  unfold lane total
  rw [sum_lanes (weight s r), show 128 * (64 * 13) = 100000 + 6496 from rfl, Finset.sum_range_add,
    Finset.sum_eq_zero (fun x _ => weight_of_ge s r _ (Nat.le_add_right _ _)), add_zero, Finset.sum_range]
  exact Finset.sum_congr rfl fun v _ => weight_of_lt s r v

end Cert.Model

end
-- ==== Proof.Blocks.lean ====
module

public import proofs.«01_k».proof.Proof.Data
public import proofs.«01_k».proof.Proof.Payload
public import proofs.«01_k».proof.Proof.Model
public import Idealize.ShloMosaic.Lib.Pipeline.Value
public import Idealize.ShloMosaic.Lib.Claim
public import Idealize.ShloMosaic.Lib.Pipeline.ValueKit.Point

/-!
The blocks the body is handed, as elements of the launch arrays.
-/

@[expose] public section

set_option maxRecDepth 16384

noncomputable section

namespace Cert.KernelIdeal.Blocks

open Idealize.ShloMosaic Idealize.ShloMosaic.TcCoe Idealize.ShloMosaic.Tactic
open Cert.KernelIdeal.Gen Cert.KernelIdeal.Body Cert.KernelIdeal.Data

variable (m : (ℓ : Loc nD τ sig) → Buf (Elt Ideal) ℓ)

/-- The launch arrays on a device. -/
abbrev aX (c : Dev nD) : Cert.Model.Tokens := m ((c.tc : Thread nD τ).loc main_arg0)
abbrev aPos (c : Dev nD) : Cert.Model.Positions := m ((c.tc : Thread nD τ).loc main_arg3)
abbrev aW (c : Dev nD) : Cert.Model.Weights := m ((c.tc : Thread nD τ).loc main_arg4)
abbrev aB (c : Dev nD) : Cert.Model.Bias := m ((c.tc : Thread nD τ).loc main_arg5)
abbrev aE (c : Dev nD) : Cert.Model.Entities := m ((c.tc : Thread nD τ).loc main_arg6)

/-- The kernel's token rows: row `4 p + q` is token `q` of batch `p`. -/
theorem V_v1 (c : Dev nD) : V m c main_v1 = shapeCast S16x1024 (extractStridedSlice S4x4x1024 ![0, 0, 0] (aX m c) slices_S4x2048x1024_S4x4x1024_0_0_0) shapeCasts_S4x4x1024_S16x1024 := by
  entry_read
  rfl

/-- The kernel's bias row. -/
theorem V_v2 (c : Dev nD) : V m c main_v2 = shapeCast S1x128 (aB m c) shapeCasts_S128_S1x128 := by
  entry_read
  rfl

/-- The kernel's entity table. -/
theorem V_v3 (c : Dev nD) : V m c main_v3 = transpose S100000x128 [1, 0] (aE m c) transposes_S128x100000_S100000x128_1_0 := by
  entry_read
  rfl

/-- Row `4 p + q` of the kernel's token rows is token `q` of batch `p`. -/
theorem V_v1_apply (c : Dev nD) (p q : Fin 4) (j : Fin 1024) (h : 4 * p.val + q.val < 16) :
    (V m c main_v1 : Vec Ideal S16x1024 .f32) (ix2 ⟨4 * p.val + q.val, h⟩ j)
      = aX m c (ix3 p ⟨q.val, by omega⟩ j) := by
  rw [V_v1]
  pointwise

/-- The kernel's bias row at an element. -/
theorem V_v2_apply (c : Dev nD) (k : Fin 128) :
    (V m c main_v2 : Vec Ideal S1x128 .f32) (ix2 0 k) = aB m c (ix1 k) := by
  rw [V_v2]
  pointwise

/-- The kernel's entity table at an element. -/
theorem V_v3_apply (c : Dev nD) (v : Fin 100000) (k : Fin 128) :
    (V m c main_v3 : Vec Ideal S100000x128 .f32) (ix2 v k) = aE m c (ix2 k v) := by
  rw [V_v3]
  pointwise

/-- A block that is a whole array sits in it at its own coordinates. -/
theorem emb_of_index_zero {G : Pipeline.Grid} (w : Pipeline.Window sig G) (t : Fin G.N) (h : ∀ a, w.index t a = 0)
    (y : (w.xblock (G.coords t)).Idx) (a : Fin w.shape.rank) : ((w.rect t).emb y a : ℕ) = y a :=
  w.rect_emb_val_of_index_zero t a (h a) y

theorem index0 (t : Fin grid0.N) (a : Fin 2) : win0_0.index t a = 0 := by
  match a with
  | 0 => rfl
  | 1 => rfl

/-- The position block is the positions, at every point. -/
theorem pos_block (c : Dev nD) (t : Fin (cfgs 0).N) (y : (⟨2, ![3, 64]⟩ : Shape).Idx) :
    (iblk m c 0 t : Vec Ideal S3x64 .i32) y = aPos m c y := by
  show V m c main_arg3 _ = _
  rw [V_main_arg3]
  refine congrArg (aPos m c) (funext fun a => Fin.ext ?_)
  exact emb_of_index_zero win0_0 t (index0 t) y a

theorem index1 (t : Fin grid0.N) (a : Fin 2) : win0_1.index t a = 0 := by
  match a with
  | 0 => rfl
  | 1 => rfl

theorem index2 (t : Fin grid0.N) (a : Fin 2) : win0_2.index t a = 0 := by
  match a with
  | 0 => rfl
  | 1 => rfl

theorem index3 (t : Fin grid0.N) (a : Fin 2) : win0_3.index t a = 0 := by
  match a with
  | 0 => rfl
  | 1 => rfl

/-- The block of token rows is the whole of them, at every point. -/
theorem rows_block (c : Dev nD) (t : Fin (cfgs 0).N) (y : (⟨2, ![16, 1024]⟩ : Shape).Idx) :
    (iblk m c 1 t : Vec Ideal S16x1024 .f32) y = (V m c main_v1 : Vec Ideal S16x1024 .f32) y := by
  show V m c main_v1 _ = _
  refine congrArg (V m c main_v1) (funext fun a => Fin.ext ?_)
  exact emb_of_index_zero win0_1 t (index1 t) y a

/-- The weight block is the weights, at every point. -/
theorem weights_block (c : Dev nD) (t : Fin (cfgs 0).N) (y : (⟨2, ![128, 2048]⟩ : Shape).Idx) :
    (iblk m c 2 t : Vec Ideal S128x2048 .f32) y = aW m c y := by
  show V m c main_arg4 _ = _
  rw [V_main_arg4]
  refine congrArg (aW m c) (funext fun a => Fin.ext ?_)
  exact emb_of_index_zero win0_2 t (index2 t) y a

/-- The bias block is the bias row, at every point. -/
theorem bias_block (c : Dev nD) (t : Fin (cfgs 0).N) (y : (⟨2, ![1, 128]⟩ : Shape).Idx) :
    (iblk m c 3 t : Vec Ideal S1x128 .f32) y = (V m c main_v2 : Vec Ideal S1x128 .f32) y := by
  show V m c main_v2 _ = _
  refine congrArg (V m c main_v2) (funext fun a => Fin.ext ?_)
  exact emb_of_index_zero win0_3 t (index3 t) y a

/-- In the first pass the entity window walks the table's rows in blocks of 8192; the last block is cut. -/
theorem index4 : ∀ t : Fin grid0.N, t.val < 13 →
    win0_4.index t 0 = t.val ∧ win0_4.index t 1 = 0
      ∧ win0_4.xsize (grid0.coords t) 0 = min 8192 (100000 - 8192 * t.val) ∧ win0_4.xsize (grid0.coords t) 1 = 128 := by
  decide +kernel

theorem ent_elem (c : Dev nD) (t : Fin grid0.N) (ht : t.val < 13) (q : Fin 8192) (k : Fin 128)
    (hq : 8192 * t.val + q.val < 100000) (y : (win0_4.xblock (grid0.coords t)).Idx) (y0 : (y 0 : ℕ) = q.val) (y1 : (y 1 : ℕ) = k.val) :
    iblk m c 4 t y = (V m c main_v3 : Vec Ideal S100000x128 .f32) (ix2 ⟨8192 * t.val + q.val, hq⟩ k) := by
  obtain ⟨i0, i1, -, -⟩ := index4 t ht
  show (V m c main_v3 : Vec Ideal S100000x128 .f32) ((win0_4.rect t).emb y) = _
  refine congrArg (V m c main_v3 : Vec Ideal S100000x128 .f32) (funext fun a => Fin.ext ?_)
  rw [show ((win0_4.rect t).emb y a : ℕ) = win0_4.index t a * win0_4.size a + y a from win0_4.rect_emb_val t y a]
  match a with
  | 0 => rw [i0, y0]; show t.val * 8192 + q.val = 8192 * t.val + q.val; omega
  | 1 => rw [i1, y1]; show 0 * 128 + k.val = k.val; omega

/-- The entity block of the point `t` of the first pass holds the entities from `8192 t` on, as far as there are any. -/
theorem ents_apply (c : Dev nD) (t : Fin (cfgs 0).N) (d) (ht : t.val < 13) (q : Fin 8192) (k : Fin 128)
    (hq : 8192 * t.val + q.val < 100000) :
    (ents m c t d : Vec Ideal S8192x128 .f32) (ix2 q k) = aE m c (ix2 k ⟨8192 * t.val + q.val, hq⟩) := by
  obtain ⟨i0, i1, x0, x1⟩ := index4 t ht
  have hm : win0_4.moved (grid0.coords t) (ix2 q k) = true := by
    rw [Pipeline.Window.moved_iff]
    intro a
    match a with
    | 0 => show q.val < _; rw [x0]; have := q.isLt; omega
    | 1 => show k.val < _; rw [x1]; exact k.isLt
  show win0_4.fill (grid0.coords t) d (iblk m c 4 t) (ix2 q k) = _
  unfold Pipeline.Window.fill
  rw [dif_pos hm, ← V_v3_apply m c]
  exact ent_elem m c t ht q k hq _ rfl rfl

/-- Where the body stores a block of weights, and where it reads one back. -/
theorem off1 : ∀ t : Fin grid0.N, t.val < 12 → k0_off1 (grid0.coords t) 0 = 0 ∧ k0_off1 (grid0.coords t) 1 = 8192 * t.val := by
  decide +kernel

theorem off2 : ∀ t : Fin grid0.N, t.val = 12 → k0_off2 (grid0.coords t) 0 = 0 ∧ k0_off2 (grid0.coords t) 1 = 98304 := by
  decide +kernel

theorem off3 : ∀ t : Fin grid0.N, 13 ≤ t.val →
    k0_off3 (grid0.coords t) 0 = 0 ∧ k0_off3 (grid0.coords t) 1 = 8192 * (t.val - 13) := by
  decide +kernel

/-- In the second pass the output window walks the result's columns in blocks of 8192; the last block is cut. -/
theorem index5 : ∀ t : Fin grid0.N, 13 ≤ t.val →
    win0_5.index t 0 = 0 ∧ win0_5.index t 1 = t.val - 13
      ∧ win0_5.xsize (grid0.coords t) 0 = 64 ∧ win0_5.xsize (grid0.coords t) 1 = min 8192 (100000 - 8192 * (t.val - 13)) := by
  decide +kernel

theorem flush5 : ∀ t : Fin grid0.N, win0_5.flush t = true ↔ 13 ≤ t.val := by
  decide +kernel

/-- Every mention is found among the first four tokens of the first four batches. -/
theorem proj_apply (c : Dev nD) (t : Fin (cfgs 0).N) (hp : ∀ a r, (aPos m c (ix2 a r)).toNat < 4) (r : Fin 64) (k : Fin 128) :
    (proj m c t : Vec Ideal S64x128 .bf16) (ix2 r k) = Cert.Model.mention (aX m c) (aPos m c) (aW m c) (aB m c) r k := by
  have hpos : (iblk m c 0 t : Vec Ideal S3x64 .i32) = aPos m c := funext (pos_block m c t)
  show k0_pay6 (iblk m c 0 t : Vec Ideal S3x64 .i32) (iblk m c 1 t) (iblk m c 2 t) (iblk m c 3 t) (ix2 r k) = _
  rw [hpos, Payload.pay6_apply _ _ _ _ hp]
  have h4 : ∀ a, Cert.Model.at4 (aPos m c) a r = ⟨(aPos m c (ix2 a r)).toNat, hp a r⟩ := fun a =>
    Fin.ext (Nat.mod_eq_of_lt (hp a r))
  unfold Cert.Model.mention Cert.Model.token
  simp only [h4]
  congr 1
  · congr 1
    · refine Finset.sum_congr rfl fun j _ => ?_
      rw [rows_block, weights_block]
      exact congrArg (· * _) (V_v1_apply m c ⟨_, hp 0 r⟩ ⟨_, hp 1 r⟩ j _)
    · refine Finset.sum_congr rfl fun j _ => ?_
      rw [rows_block, weights_block]
      exact congrArg (· * _) (V_v1_apply m c ⟨_, hp 0 r⟩ ⟨_, hp 2 r⟩ j _)
  · rw [bias_block]
    exact V_v2_apply m c k

end Cert.KernelIdeal.Blocks

end
-- ==== Proof.Value.lean ====
module

public import proofs.«01_k».proof.Proof.Blocks

/-!
What the scratch buffers hold after each grid point, and what the second pass writes out: over the ideal numbers, for positions in
range.
-/

@[expose] public section

set_option maxRecDepth 16384

noncomputable section

namespace Cert.KernelIdeal.Value

open Idealize.ShloMosaic Idealize.ShloMosaic.TcCoe Idealize.ShloMosaic.Tactic
open Cert.KernelIdeal.Gen Cert.KernelIdeal.Body Cert.KernelIdeal.Data Cert.KernelIdeal.Blocks Cert.Model

variable (m : (ℓ : Loc nD τ sig) → Buf (Elt Ideal) ℓ)

/-- The scores on a device. -/
abbrev scores (c : Dev nD) : Fin 64 → Fin 100000 → EReal := score (aX m c) (aPos m c) (aW m c) (aB m c) (aE m c)

/-- The scratch buffers after `n` points: the projected mentions; the exponentials of every score of the blocks passed; the lane
    sums over those blocks, until the second pass turns them into the reciprocals of the rows' totals. -/
def St (c : Dev nD) (n : ℕ) (a : Vec Ideal S64x106496 .f32) (p : Vec Ideal S64x128 .bf16) (s : Vec Ideal S64x128 .f32) : Prop :=
  (0 < n → ∀ r k, p (ix2 r k) = mention (aX m c) (aPos m c) (aW m c) (aB m c) r k)
    ∧ (∀ (r : Fin 64) (v : Fin 106496), v.val < 8192 * min n 13 → a (ix2 r v) = weight (scores m c) r v.val)
    ∧ (0 < n → n ≤ 13 → ∀ (r : Fin 64) (l : Fin 128), s (ix2 r l) = lane (scores m c) r n l.val)
    ∧ (13 < n → ∀ (r : Fin 64) (l : Fin 128), s (ix2 r l) = Ideal.div 1 (total (scores m c) r))

/-- What the point `t` of the second pass leaves in the output block: the exponentials of its columns over the rows' totals. -/
def Out (c : Dev nD) (t : ℕ) (X : Vec Ideal S64x8192 .f32) : Prop :=
  ∀ (r : Fin 64) (q : Fin 8192), X (ix2 r q) = weight (scores m c) r (8192 * (t - 13) + q.val) * Ideal.div 1 (total (scores m c) r)

/-- A row of projected mentions against a row of the entity block is that entity's score. -/
theorem block_score (c : Dev nD) (t : Fin (cfgs 0).N) (d) (ht : t.val < 13) (p : Vec Ideal S64x128 .bf16)
    (hpr : ∀ r k, p (ix2 r k) = mention (aX m c) (aPos m c) (aW m c) (aB m c) r k) (r : Fin 64) (q : Fin 8192)
    (hq : 8192 * t.val + q.val < 100000) :
    Ideal.exp (∑ k : Fin 128, p (ix2 r k) * (ents m c t d : Vec Ideal S8192x128 .f32) (ix2 q k))
      = weight (scores m c) r (8192 * t.val + q.val) := by
  rw [weight, dif_pos hq]
  refine congrArg Ideal.exp (Finset.sum_congr rfl fun k _ => ?_)
  rw [hpr, ents_apply m c t d ht q k hq]

/-- A store of a block of columns, at an element. -/
theorem put_apply (a : Vec Ideal S64x106496 .f32) (off : Fin 2 → ℕ) (b : ℕ) (h0 : off 0 = 0) (h1 : off 1 = b)
    (w : Vec Ideal S64x8192 .f32) (r : Fin 64) (v : Fin 106496) :
    (VecWindow.put (s := S64x106496) a off S64x8192.size w : Vec Ideal S64x106496 .f32) (ix2 r v)
      = if h : b ≤ v.val ∧ v.val < b + 8192 then w (ix2 r ⟨v.val - b, by omega⟩) else a (ix2 r v) := by
  subst h1
  unfold VecWindow.put
  by_cases h : off 1 ≤ v.val ∧ v.val < off 1 + 8192
  · have hall : ∀ x : Fin 2, off x ≤ ((ix2 r v : S64x106496.Idx) x).val ∧ ((ix2 r v : S64x106496.Idx) x).val < off x + S64x8192.size x := by
      intro x
      match x with
      | 0 => show off 0 ≤ r.val ∧ r.val < off 0 + 64; have := r.isLt; omega
      | 1 => exact h
    rw [dif_pos h]
    refine (dif_pos hall).trans (congrArg w (funext fun x => Fin.ext ?_))
    match x with
    | 0 => show r.val - off 0 = r.val; omega
    | 1 => rfl
  · rw [dif_neg h]
    exact dif_neg fun hall => h (hall 1)

/-- Storing the next block's exponentials extends the columns known by 8192. -/
theorem put_weights (c : Dev nD) (n : ℕ) (hn : n < 13) (a : Vec Ideal S64x106496 .f32) (off : Fin 2 → ℕ) (h0 : off 0 = 0)
    (h1 : off 1 = 8192 * n) (w : Vec Ideal S64x8192 .f32)
    (ha : ∀ (r : Fin 64) (v : Fin 106496), v.val < 8192 * min n 13 → a (ix2 r v) = weight (scores m c) r v.val)
    (hw : ∀ (r : Fin 64) (q : Fin 8192), w (ix2 r q) = weight (scores m c) r (8192 * n + q.val)) (r : Fin 64) (v : Fin 106496)
    (hv : v.val < 8192 * min (n + 1) 13) :
    (VecWindow.put (s := S64x106496) a off S64x8192.size w : Vec Ideal S64x106496 .f32) (ix2 r v) = weight (scores m c) r v.val := by
  rw [put_apply a off (8192 * n) h0 h1]
  by_cases h : 8192 * n ≤ v.val ∧ v.val < 8192 * n + 8192
  · rw [dif_pos h, hw]
    congr 1
    show 8192 * n + (v.val - 8192 * n) = v.val
    omega
  · rw [dif_neg h]
    exact ha r v (by omega)

/-- The block scaled: a kept exponential times the kept reciprocal. -/
theorem scaled_apply (c : Dev nD) (t : Fin grid0.N) (h : k0_cond4 (grid0.coords t) = 1#1) (ht : 13 ≤ t.val)
    (a : Vec Ideal S64x106496 .f32) (s : Vec Ideal S64x128 .f32)
    (ha : ∀ (r : Fin 64) (v : Fin 106496), v.val < 8192 * min t.val 13 → a (ix2 r v) = weight (scores m c) r v.val)
    (hs : ∀ (r : Fin 64) (l : Fin 128), s (ix2 r l) = Ideal.div 1 (total (scores m c) r)) :
    Out m c t.val (scaled (grid0.coords t) h a s) := by
  intro r q
  obtain ⟨o0, o1⟩ := off3 t ht
  have hN : t.val < 26 := t.isLt
  unfold scaled
  rw [Payload.pay5_apply]
  refine congrArg₂ (· * ·) ?_ ?_
  · have e : (Rect.unit (s := S64x106496) (k0_off3 (grid0.coords t)) S64x8192.size (k0_off3_inb (grid0.coords t) h)).emb (ix2 r q)
        = (ix2 r ⟨8192 * (t.val - 13) + q.val, by omega⟩ : S64x106496.Idx) := by
      refine funext fun x => Fin.ext ?_
      match x with
      | 0 => show k0_off3 (grid0.coords t) 0 + 1 * r.val = r.val; omega
      | 1 => show k0_off3 (grid0.coords t) 1 + 1 * q.val = 8192 * (t.val - 13) + q.val; omega
    show a _ = _
    rw [e, ha r _ (by show 8192 * (t.val - 13) + q.val < _; omega)]
  · have e : (Rect.unit (s := S64x128) ![0, 0] S64x1.size inb_S64x128_S64x1_0_0).emb (ix2 r 0) = (ix2 r 0 : S64x128.Idx) := by
      refine funext fun x => Fin.ext ?_
      match x with
      | 0 => show 0 + 1 * r.val = r.val; omega
      | 1 => rfl
    show s _ = _
    rw [e, hs r 0]

/-- The body's steps keep `St` and leave `Out`. -/
theorem steps (hp : ∀ c a r, (aPos m c (ix2 a r)).toNat < 4) : Steps m (St m) (Out m) where
  start c a p s := ⟨fun h => absurd h (by omega), fun r v h => absurd h (by omega), fun h => absurd h (by omega), fun h => absurd h (by omega)⟩
  first c t a p s d ht h := by
    obtain ⟨-, ha, -, -⟩ := h
    obtain ⟨o0, o1⟩ := off1 t (by omega)
    have hpr := proj_apply m c t (hp c)
    have hw : ∀ (r : Fin 64) (q : Fin 8192), Ideal.exp (∑ k : Fin 128, (proj m c t : Vec Ideal S64x128 .bf16) (ix2 r k) * (ents m c t d : Vec Ideal S8192x128 .f32) (ix2 q k))
        = weight (scores m c) r (8192 * t.val + q.val) := fun r q => block_score m c t d (by omega) _ hpr r q (by have := q.isLt; omega)
    refine ⟨fun _ => hpr, ?_, fun _ _ r l => ?_, fun h => absurd h (by omega)⟩
    · exact put_weights m c t.val (by omega) a _ o0 o1 _ ha fun r q => (Payload.pay9_apply _ _ r q).trans (hw r q)
    · rw [Payload.sums_apply, Payload.pay1_apply, lane_succ, ht, lane_zero]
      refine congrArg (_ + ·) (Finset.sum_congr rfl fun j _ => ?_)
      rw [Payload.pay8_apply, hw, ht]
  mid c t a p s d h0 ht h := by
    obtain ⟨hpr, ha, hs, -⟩ := h
    obtain ⟨o0, o1⟩ := off1 t ht
    have hw : ∀ (r : Fin 64) (q : Fin 8192), Ideal.exp (∑ k : Fin 128, p (ix2 r k) * (ents m c t d : Vec Ideal S8192x128 .f32) (ix2 q k))
        = weight (scores m c) r (8192 * t.val + q.val) := fun r q => block_score m c t d (by omega) _ (hpr h0) r q (by have := q.isLt; omega)
    refine ⟨fun _ => hpr h0, ?_, fun _ _ r l => ?_, fun h => absurd h (by omega)⟩
    · exact put_weights m c t.val (by omega) a _ o0 o1 _ ha fun r q => (Payload.pay9_apply _ _ r q).trans (hw r q)
    · rw [Payload.sums_apply, lane_succ, hs h0 (by omega)]
      refine congrArg (_ + ·) (Finset.sum_congr rfl fun j _ => ?_)
      rw [Payload.pay8_apply, hw]
  last c t a p s d ht h := by
    obtain ⟨hpr, ha, hs, -⟩ := h
    obtain ⟨o0, o1⟩ := off2 t ht
    have hpr := hpr (by omega)
    have hw : ∀ (r : Fin 64) (q : Fin 8192), k0_pay12 p (ents m c t d) (ix2 r q) = weight (scores m c) r (8192 * t.val + q.val) := by
      intro r q
      rw [Payload.pay12_apply]
      by_cases h : 98304 + q.val < 100000
      · rw [if_pos h, block_score m c t d (by omega) _ hpr r q (by omega)]
      · rw [if_neg h, weight_of_ge _ _ _ (by omega)]
    refine ⟨fun _ => hpr, ?_, fun _ _ r l => ?_, fun h => absurd h (by omega)⟩
    · exact put_weights m c t.val (by omega) a _ o0 (by omega) _ ha fun r q => (Payload.pay13_apply _ _ r q).trans (hw r q)
    · rw [Payload.sumsLast_apply, lane_succ, hs (by omega) (by omega)]
      refine congrArg (_ + ·) (Finset.sum_congr rfl fun j _ => ?_)
      rw [hw]
  turn c t a p s h ht hst := by
    obtain ⟨hpr, ha, hs, -⟩ := hst
    have hs' : ∀ (r : Fin 64) (l : Fin 128), k0_pay4 s (ix2 r l) = Ideal.div 1 (total (scores m c) r) := by
      intro r l
      rw [Payload.pay4_apply, ← sum_lane]
      refine congrArg _ (Finset.sum_congr rfl fun l _ => ?_)
      rw [hs (by omega) (by omega), ht]
    exact ⟨⟨fun _ => hpr (by omega), fun r v hv => ha r v (by omega), fun _ h => absurd h (by omega), fun _ => hs'⟩,
      scaled_apply m c t h (by omega) a _ ha hs'⟩
  scale c t a p s h ht hst := by
    obtain ⟨hpr, ha, -, hs⟩ := hst
    exact ⟨⟨fun _ => hpr (by omega), fun r v hv => ha r v (by omega), fun _ h => absurd h (by omega), fun _ => hs ht⟩,
      scaled_apply m c t h (by omega) a s ha (hs ht)⟩

end Cert.KernelIdeal.Value

end
-- ==== Proof.Result.lean ====
module

public import proofs.«01_k».proof.Proof.Value
public import Idealize.ShloMosaic.Lib.Pipeline.ArrRel

/-!
The kernel's result: every element of it, for positions in range.
-/

@[expose] public section

set_option maxRecDepth 16384

noncomputable section

namespace Cert.KernelIdeal.Result

open Idealize.ShloMosaic Idealize.ShloMosaic.TcCoe Idealize.ShloMosaic.Tactic Idealize.ShloMosaic.Pipeline
open Cert.KernelIdeal.Gen Cert.KernelIdeal.Body Cert.KernelIdeal.Data Cert.KernelIdeal.Blocks Cert.KernelIdeal.Value Cert.Model

variable (m : (ℓ : Loc nD τ sig) → Buf (Elt Ideal) ℓ)

/-- The result array: each exponential times the reciprocal of its row's total. -/
def result (c : Dev nD) : Buf (Elt Ideal) ((c.tc : Thread nD τ).loc main_v4) :=
  fun i : (⟨2, ![64, 100000]⟩ : Shape).Idx => prob (scores m c) (i 0) (i 1)

/-- An element of the result lies in the block of the point that handles its column. -/
theorem mem_blk (t : Fin cfg0.N) (ht : 13 ≤ t.val) (i : S64x100000.Idx)
    (h : 8192 * (t.val - 13) ≤ (i 1 : ℕ) ∧ (i 1 : ℕ) < 8192 * (t.val - 13) + 8192) : i ∈ (win0_5.blk t).view.set := by
  obtain ⟨i0, i1, x0, x1⟩ := index5 t ht
  show i ∈ ((View.whole main_v4).slice (win0_5.rect t)).set
  rw [View.set_slice_whole, Rect.mem_set_unit]
  have h0 : (i 0 : ℕ) < 64 := (i 0).isLt
  have h1 : (i 1 : ℕ) < 100000 := (i 1).isLt
  intro a
  match a with
  | ⟨0, _⟩ =>
    show win0_5.index t 0 * 64 ≤ (i 0 : ℕ) ∧ (i 0 : ℕ) < win0_5.index t 0 * 64 + win0_5.xsize (grid0.coords t) 0
    rw [i0, x0]; omega
  | ⟨1, _⟩ =>
    show win0_5.index t 1 * 8192 ≤ (i 1 : ℕ) ∧ (i 1 : ℕ) < win0_5.index t 1 * 8192 + win0_5.xsize (grid0.coords t) 1
    rw [i1, x1]; omega

/-- What a point of the second pass leaves is, on the part written back, the result read through its block. -/
theorem cut_eq (c : Dev nD) (t : Fin cfg0.N) (ht : 13 ≤ t.val) (X : Vec Ideal S64x8192 .f32) (hX : Out m c t.val X) :
    win0_5.cut (grid0.coords t) X = (win0_5.blk t).view.read (Elt Ideal) (result m c) := by
  obtain ⟨i0, i1, x0, x1⟩ := index5 t ht
  funext y
  have hy0 : (y 0 : ℕ) < 64 := lt_of_lt_of_le (y 0).isLt (by show win0_5.xsize (grid0.coords t) 0 ≤ 64; omega)
  have hb : (y 1 : ℕ) < win0_5.xsize (grid0.coords t) 1 := (y 1).isLt
  have hy1 : (y 1 : ℕ) < 8192 := by omega
  have e : win0_5.xinj (grid0.coords t) y = (ix2 ⟨(y 0 : ℕ), hy0⟩ ⟨(y 1 : ℕ), hy1⟩ : S64x8192.Idx) := by
    refine funext fun a => Fin.ext ?_
    match a with
    | 0 => rfl
    | 1 => rfl
  have hv : 8192 * (t.val - 13) + (y 1 : ℕ) < 100000 := by omega
  show X (win0_5.xinj (grid0.coords t) y) = result m c ((win0_5.rect t).emb y)
  rw [e, hX, show weight (scores m c) ⟨(y 0 : ℕ), hy0⟩ (8192 * (t.val - 13) + (y 1 : ℕ)) = _ from weight_of_lt (scores m c) ⟨(y 0 : ℕ), hy0⟩ ⟨_, hv⟩]
  have e0 : (win0_5.rect t).emb y 0 = (⟨(y 0 : ℕ), hy0⟩ : Fin 64) := Fin.ext <| by
    rw [show ((win0_5.rect t).emb y 0 : ℕ) = win0_5.index t 0 * 64 + y 0 from win0_5.rect_emb_val t y 0, i0]
    show 0 * 64 + (y 0 : ℕ) = y 0; omega
  have e1 : (win0_5.rect t).emb y 1 = (⟨8192 * (t.val - 13) + (y 1 : ℕ), hv⟩ : Fin 100000) := Fin.ext <| by
    rw [show ((win0_5.rect t).emb y 1 : ℕ) = win0_5.index t 1 * 8192 + y 1 from win0_5.rect_emb_val t y 1, i1]
    show (t.val - 13) * 8192 + (y 1 : ℕ) = 8192 * (t.val - 13) + y 1; omega
  show _ = prob (scores m c) ((win0_5.rect t).emb y 0) ((win0_5.rect t).emb y 1)
  rw [e0, e1]
  rfl

/-- After a run, the result array is `result`. -/
theorem final {r : PUnit × MemSt nD τ sig (Elt Ideal)}
    (h : Pipeline.RDat.FramePost (cfgs 0) (fun c => rdat m (St m) (Out m) c) (V m) r) (c : Dev nD) :
    r.2.mem ((c.tc : Thread nD τ).loc main_v4) = result m c := by
  obtain ⟨after, hL, hA⟩ := RDat.FramePost.exists_exact h c
  refine (hA 5).trans ?_
  refine Dat.arrAt_eq_of_cover (cfg := cfgs 0) (c := c) ((rdat m (St m) (Out m) c).withAfter after) 5 (result m c) (fun t hf => ?_) (fun i => ?_)
  · have ht : 13 ≤ t.val := (flush5 t).mp hf
    obtain ⟨Y, -, hY⟩ := hL 5 t hf
    exact cut_eq m c t ht _ (hY ht)
  · have h1 : (i 1 : ℕ) < 100000 := (i 1).isLt
    have hlt : 13 + (i 1 : ℕ) / 8192 < 26 := by omega
    exact ⟨⟨13 + (i 1 : ℕ) / 8192, hlt⟩, (flush5 _).mpr (by show 13 ≤ 13 + (i 1 : ℕ) / 8192; omega),
      mem_blk ⟨13 + (i 1 : ℕ) / 8192, hlt⟩ (by show 13 ≤ 13 + (i 1 : ℕ) / 8192; omega) i
        (by show 8192 * (13 + (i 1 : ℕ) / 8192 - 13) ≤ (i 1 : ℕ) ∧ (i 1 : ℕ) < 8192 * (13 + (i 1 : ℕ) / 8192 - 13) + 8192; omega)⟩

/-- Every run from memory holding positions in range ends with `result` in the result array and the arguments unchanged. -/
theorem run (ρ : Dev nD → PrngReg) (hp : ∀ c a r, (aPos m c (ix2 a r)).toNat < 4) :
    θ_run defs (onTc main) (s₀ m ρ) (fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨final m h.1 c, args_kept h.1 c⟩) (Data.run (m := m) ρ (steps m hp))

end Cert.KernelIdeal.Result

end
-- ==== Proof.Softmax.lean ====
module

public import proofs.«01_k».proof.Proof.Model

/-!
The softmax of real scores: subtracting a real number from every score of a row changes nothing.
-/

@[expose] public section

noncomputable section

namespace Cert.Model

open Idealize.ShloMosaic

/-- A number that is neither infinity. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A sum of reals taken among the extended reals is the reals' sum. -/
theorem coe_sum {ι : Type} (s : Finset ι) (f : ι → ℝ) : ∑ i ∈ s, (f i : EReal) = ((∑ i ∈ s, f i : ℝ) : EReal) := by
  classical
  induction s using Finset.induction_on with
  | empty => rfl
  | insert i s hi ih => rw [Finset.sum_insert hi, Finset.sum_insert hi, ih, EReal.coe_add]

theorem IsReal.sum {ι : Type} (s : Finset ι) (f : ι → EReal) (hf : ∀ i, IsReal (f i)) : IsReal (∑ i ∈ s, f i) := by
  choose g hg using hf
  exact ⟨∑ i ∈ s, g i, by rw [← coe_sum]; exact Finset.sum_congr rfl fun i _ => hg i⟩

theorem isReal_of_lt {x : EReal} (h0 : ⊥ < x) (h1 : x < ⊤) : IsReal x := ⟨x.toReal, (EReal.coe_toReal h1.ne h0.ne').symm⟩

/-- A number whose absolute value is below infinity is real. -/
theorem isReal_of_abs_lt {x : EReal} (h : max x (-x) < ⊤) : IsReal x := by
  obtain ⟨h1, h2⟩ := max_lt_iff.mp h
  refine isReal_of_lt (bot_lt_iff_ne_bot.mpr fun hb => ?_) h1
  rw [hb, EReal.neg_bot] at h2
  exact lt_irrefl _ h2

/-- The largest of some reals, taken from minus infinity, is real. -/
theorem IsReal.fold_max {n : ℕ} (f : Fin (n + 1) → EReal) (hf : ∀ i, IsReal (f i)) : IsReal (Finset.univ.fold max ⊥ f) := by
  refine isReal_of_lt ?_ ?_
  · rw [Finset.lt_fold_max]
    obtain ⟨r, hr⟩ := hf 0
    exact Or.inr ⟨0, Finset.mem_univ _, by rw [hr]; exact EReal.bot_lt_coe r⟩
  · rw [Finset.fold_max_lt]
    refine ⟨bot_lt_top, fun i _ => ?_⟩
    obtain ⟨r, hr⟩ := hf i
    rw [hr]; exact EReal.coe_lt_top r

/-- Real scores shifted by a real number have the same softmax; the quotient is the product with the reciprocal. -/
theorem softmax_shift {n : ℕ} (f : Fin n → EReal) (μ : EReal) (hf : ∀ i, IsReal (f i)) (hμ : IsReal μ) (v : Fin n) :
    Ideal.div (Ideal.exp (f v - μ)) (∑ u, Ideal.exp (f u - μ)) = Ideal.exp (f v) * Ideal.div 1 (∑ u, Ideal.exp (f u)) := by
  choose g hg using hf
  obtain ⟨c, rfl⟩ := hμ
  have e1 : ∀ u, Ideal.exp (f u - (c : EReal)) = ((Real.exp (g u - c) : ℝ) : EReal) := fun u => by
    rw [hg u, ← EReal.coe_sub, Ideal.exp_coe]
  have e2 : ∀ u, Ideal.exp (f u) = ((Real.exp (g u) : ℝ) : EReal) := fun u => by rw [hg u, Ideal.exp_coe]
  simp only [e1, e2]
  rw [coe_sum, coe_sum]
  have p1 : 0 < ∑ u, Real.exp (g u - c) := Finset.sum_pos (fun u _ => Real.exp_pos _) ⟨v, Finset.mem_univ _⟩
  have p2 : 0 < ∑ u, Real.exp (g u) := Finset.sum_pos (fun u _ => Real.exp_pos _) ⟨v, Finset.mem_univ _⟩
  rw [Ideal.div_coe p1.ne', Ideal.div_coe p2.ne', one_mul, ← EReal.coe_mul, ← EReal.coe_mul, EReal.coe_eq_coe_iff]
  have e3 : ∑ u, Real.exp (g u - c) = (∑ u, Real.exp (g u)) / Real.exp c := by
    rw [Finset.sum_div]; exact Finset.sum_congr rfl fun u _ => Real.exp_sub _ _
  rw [e3, Real.exp_sub]
  have := (Real.exp_pos c).ne'
  field_simp

/-- Scores of real arguments are real. -/
theorem score_isReal (X : Tokens) (pos : Positions) (W : Weights) (b : Bias) (E : Entities)
    (hX : ∀ (p q : Fin 4) (j : Fin 1024), IsReal (X (ix3 p ⟨q.val, by omega⟩ j))) (hW : ∀ i, IsReal (W i)) (hb : ∀ i, IsReal (b i))
    (hE : ∀ i, IsReal (E i)) (r : Fin 64) (v : Fin 100000) : IsReal (score X pos W b E r v) := by
  unfold score mention token
  exact IsReal.sum _ _ fun k => (((IsReal.sum _ _ fun j => (hX _ _ _).mul (hW _)).add (IsReal.sum _ _ fun j => (hX _ _ _).mul (hW _))).add
    (hb _)).mul (hE _)

end Cert.Model

end
-- ==== Proof.Pre.lean ====
module

public import proofs.«01_k».proof.Proof.Softmax
public import proofs.«01_k».proof.Pre_finite_and_in_range
public import Idealize.ShloMosaic.Lib.ReduceAll
public import Idealize.ShloMosaic.Lib.Affine
public import Idealize.ShloMosaic.Lib.Pointwise

/-!
What the precondition says of the arguments: positions in range, and real values.
-/

@[expose] public section

noncomputable section

namespace Cert.Pre_finite_and_in_range

open Idealize.ShloMosaic Cert.Model Facts

variable [Facts]

theorem and_eq_one (a b : BitVec 1) : IntOp.andi a b = 1#1 ↔ a = 1#1 ∧ b = 1#1 := by
  revert a b; decide

/-- The comparison of an absolute value with the word for infinity, when it holds. -/
theorem real_of_cmp (x : EReal) (h : Ideal.cmp .olt (max x (-x)) (Ideal.ofBits .f32 0x7F800000#32) = 1#1) : IsReal x := by
  refine isReal_of_abs_lt ?_
  have ht : Ideal.ofBits .f32 0x7F800000#32 = ⊤ := by simp [Ideal.ofBits, Ideal.ieee]
  rw [ht] at h
  by_contra hn
  rw [show Ideal.cmp .olt (max x (-x)) ⊤ = BitVec.ofBool (decide (max x (-x) < ⊤)) from rfl, decide_eq_false hn] at h
  exact absurd h (by decide)

/-- A word between 0 and 3, read as a natural. -/
theorem toNat_lt (w : BitVec 32) (h0 : IntOp.cmpi .sge w 0#32 = 1#1) (h1 : IntOp.cmpi .slt w 4#32 = 1#1) : w.toNat < 4 := by
  rw [IntOp.cmpi_sge, show (0#32 : BitVec 32).toInt = 0 from by decide] at h0
  rw [IntOp.cmpi_slt, show (4#32 : BitVec 32).toInt = 4 from by decide] at h1
  rw [BitVec.toInt_eq_toNat_cond] at h0 h1
  split at h0 <;> omega

instance : Subsingleton S_.Idx := ⟨fun _ _ => funext fun a => a.elim0⟩

/-- Under the precondition the positions are in range, and the tokens that a position can name, the weights, the bias and the
    entities are real. -/
theorem decode (x0 : FVec Ideal S4x2048x1024 .f32) (x1 : IVec S4x2048 32) (x2 : IVec S64 32) (x3 : IVec S3x64 32)
    (x4 : FVec Ideal S128x2048 .f32) (x5 : FVec Ideal S128 .f32) (x6 : FVec Ideal S128x100000 .f32)
    (h : fn (F := Ideal) x0 x1 x2 x3 x4 x5 x6 = fun _ => 1#1) :
    (∀ (a : Fin 3) (r : Fin 64), (x3 (ix2 a r)).toNat < 4)
      ∧ (∀ (p q : Fin 4) (j : Fin 1024), IsReal (x0 (ix3 p ⟨q.val, by omega⟩ j)))
      ∧ (∀ i, IsReal (x4 i)) ∧ (∀ i, IsReal (x5 i)) ∧ (∀ i, IsReal (x6 i)) := by
  have h' := congrFun h (Shape.Idx.first h_S_)
  dsimp only [fn, fn_part1, andi] at h'
  simp only [and_eq_one] at h'
  obtain ⟨⟨⟨hp, hx⟩, hw, hb⟩, he⟩ := h'
  refine ⟨fun a r => ?_, fun p q j => ?_, fun i => ?_, fun i => ?_, fun i => ?_⟩
  · have e := Host.reduce_andi_all _ _ _ _ _ hp (ix2 a r)
    obtain ⟨e0, e1⟩ := (and_eq_one _ _).mp e
    exact toNat_lt _ e0 e1
  · have e := Host.reduce_andi_all _ _ _ _ _ hx (ix3 p q j)
    have e' := real_of_cmp _ e
    have es : extractStridedSlice S4x4x1024 ![0, 0, 0] x0 slices_S4x2048x1024_S4x4x1024_0_0_0 (ix3 p q j) = x0 (ix3 p ⟨q.val, by omega⟩ j) := by
      pointwise
    rwa [es] at e'
  · exact real_of_cmp _ (Host.reduce_andi_all _ _ _ _ _ hw i)
  · exact real_of_cmp _ (Host.reduce_andi_all _ _ _ _ _ hb i)
  · exact real_of_cmp _ (Host.reduce_andi_all _ _ _ _ _ he i)

end Cert.Pre_finite_and_in_range

end
-- ==== Proof.Reference.lean ====
module

public import proofs.«01_k».proof.Proof.Softmax
public import proofs.«01_k».proof.Proof.Gen.ReferenceIdeal.Read
public import Idealize.ShloMosaic.Lib.Affine
public import Idealize.ShloMosaic.Lib.Pointwise

/-!
The reference's result: every element of it, for positions in range and real arguments.
-/

@[expose] public section

set_option maxRecDepth 16384

noncomputable section

namespace Cert.ReferenceIdeal.Result

open Cert.ReferenceIdeal Cert.ReferenceIdeal.Gen Cert.ReferenceIdeal.Read Idealize.ShloMosaic Cert.Model

/-- A word in range is not taken for a negative index. -/
theorem wrap_of_lt (w z : BitVec 32) (hw : w.toNat < 4) : Scalar.select (IntOp.cmpi .slt w 0#32) z w = w := by
  have h : ¬IntOp.cmpi .slt w 0#32 = 1#1 := by
    rw [IntOp.cmpi_slt, show (0#32 : BitVec 32).toInt = 0 from by decide, BitVec.toInt_eq_toNat_cond]
    split <;> omega
  unfold Scalar.select
  rw [if_neg (by simpa using h)]

/-- A word less than four reads the same signed and unsigned. -/
theorem toInt_toNat (w : BitVec 32) (hw : w.toNat < 4) : w.toInt.toNat = w.toNat := by
  rw [BitVec.toInt_eq_toNat_cond]
  split <;> omega

/-- The gather reads the token row that a row of the index pairs names. -/
theorem gather_apply (x : S4x2048x1024.Idx → EReal) (idx : IVec S64x2 32) (r : Fin 64) (j : Fin 1024) :
    Host.gather gather_S4x2048x1024_S64x2_S64x1024_1_01_n_n_01_1_111024 x idx (ix2 r j)
      = x (ix3 ⟨min (idx (ix2 r 0)).toInt.toNat 3, by omega⟩ ⟨min (idx (ix2 r 1)).toInt.toNat 2047, by omega⟩ j) := by
  unfold Host.gather
  refine congrArg x (funext fun a => Fin.ext ?_)
  show GatherDims.start _ (ix2 r j) idx a + GatherDims.batchCoord _ (ix2 r j) a + GatherDims.offCoord _ (ix2 r j) a = _
  rw [GatherDims.batchCoord_eq_zero _ _ _ List.not_mem_nil]
  match a with
  | ⟨0, h⟩ =>
    rw [GatherDims.offCoord_eq_zero _ _ _ (fun hk => ((GatherDims.mem_sKept _ _).mp hk).1 (show (⟨0, h⟩ : Fin _) ∈ gather_S4x2048x1024_S64x2_S64x1024_1_01_n_n_01_1_111024.collapsedSliceDims from (by decide : (0 : Fin 3) ∈ gather_S4x2048x1024_S64x2_S64x1024_1_01_n_n_01_1_111024.collapsedSliceDims)))]
    unfold GatherDims.start
    rw [dif_pos (show (⟨0, h⟩ : Fin _) ∈ gather_S4x2048x1024_S64x2_S64x1024_1_01_n_n_01_1_111024.startIndexMap from
      (by decide : (0 : Fin 3) ∈ gather_S4x2048x1024_S64x2_S64x1024_1_01_n_n_01_1_111024.startIndexMap))]
    exact congrArg (fun z : S64x2.Idx => min (idx z).toInt.toNat 3)
      (show gather_S4x2048x1024_S64x2_S64x1024_1_01_n_n_01_1_111024.siIdx (ix2 r j) ⟨0, by decide⟩ = ix2 r 0 from
        funext fun b => Fin.ext (by match b with | ⟨0, _⟩ => rfl | ⟨1, _⟩ => rfl))
  | ⟨1, h⟩ =>
    rw [GatherDims.offCoord_eq_zero _ _ _ (fun hk => ((GatherDims.mem_sKept _ _).mp hk).1 (show (⟨1, h⟩ : Fin _) ∈ gather_S4x2048x1024_S64x2_S64x1024_1_01_n_n_01_1_111024.collapsedSliceDims from (by decide : (1 : Fin 3) ∈ gather_S4x2048x1024_S64x2_S64x1024_1_01_n_n_01_1_111024.collapsedSliceDims)))]
    unfold GatherDims.start
    rw [dif_pos (show (⟨1, h⟩ : Fin _) ∈ gather_S4x2048x1024_S64x2_S64x1024_1_01_n_n_01_1_111024.startIndexMap from
      (by decide : (1 : Fin 3) ∈ gather_S4x2048x1024_S64x2_S64x1024_1_01_n_n_01_1_111024.startIndexMap))]
    exact congrArg (fun z : S64x2.Idx => min (idx z).toInt.toNat 2047)
      (show gather_S4x2048x1024_S64x2_S64x1024_1_01_n_n_01_1_111024.siIdx (ix2 r j) ⟨1, by decide⟩ = ix2 r 1 from
        funext fun b => Fin.ext (by match b with | ⟨0, _⟩ => rfl | ⟨1, _⟩ => rfl))
  | ⟨2, h⟩ =>
    unfold GatherDims.start
    rw [dif_neg (show ¬(⟨2, h⟩ : Fin _) ∈ gather_S4x2048x1024_S64x2_S64x1024_1_01_n_n_01_1_111024.startIndexMap from
      (by decide : ¬(2 : Fin 3) ∈ gather_S4x2048x1024_S64x2_S64x1024_1_01_n_n_01_1_111024.startIndexMap))]
    unfold GatherDims.offCoord
    rw [dif_pos (show (⟨2, h⟩ : Fin _) ∈ gather_S4x2048x1024_S64x2_S64x1024_1_01_n_n_01_1_111024.sKept from
      (by decide : (2 : Fin 3) ∈ gather_S4x2048x1024_S64x2_S64x1024_1_01_n_n_01_1_111024.sKept))]
    simp only [Nat.zero_add]
    rfl

/-- The batch a mention names, as the reference indexes by it. -/
theorem batch (x3 : IVec S3x64 32) (hp : ∀ (a : Fin 3) (r : Fin 64), (x3 (ix2 a r)).toNat < 4) (r : Fin 64) :
    val_main_v8 (F := Ideal) x3 (ix1 r) = x3 (ix2 0 r) := by
  have h : val_main_v1 (F := Ideal) x3 (ix1 r) = x3 (ix2 0 r) := by
    unfold val_main_v1 val_main_v0
    pointwise
  rw [val_main_v8_apply, val_main_v5_apply, h]
  exact wrap_of_lt _ _ (hp 0 r)

/-- The first token a mention names. -/
theorem begin_token (x3 : IVec S3x64 32) (hp : ∀ (a : Fin 3) (r : Fin 64), (x3 (ix2 a r)).toNat < 4) (r : Fin 64) :
    val_main_v13 (F := Ideal) x3 (ix1 r) = x3 (ix2 1 r) := by
  have h : val_main_v3 (F := Ideal) x3 (ix1 r) = x3 (ix2 1 r) := by
    unfold val_main_v3 val_main_v2
    pointwise
  rw [val_main_v13_apply, val_main_v10_apply, h]
  exact wrap_of_lt _ _ (hp 1 r)

/-- The second token a mention names. -/
theorem end_token (x3 : IVec S3x64 32) (hp : ∀ (a : Fin 3) (r : Fin 64), (x3 (ix2 a r)).toNat < 4) (r : Fin 64) :
    val_main_v31 (F := Ideal) x3 (ix1 r) = x3 (ix2 2 r) := by
  have h : val_main_v21 (F := Ideal) x3 (ix1 r) = x3 (ix2 2 r) := by
    unfold val_main_v21 val_main_v20
    pointwise
  rw [val_main_v31_apply, val_main_v28_apply, h]
  exact wrap_of_lt _ _ (hp 2 r)

/-- Two columns side by side, read back. -/
theorem pair_apply (y z : IVec S64 32) (r : Fin 64) :
    concatenate S64x2 1 [⟨S64x1, broadcastInDim S64x1 ![0] bcast_S64_S64x1_0 y⟩, ⟨S64x1, broadcastInDim S64x1 ![0] bcast_S64_S64x1_0 z⟩]
        concatenates_S64x1_S64x1_S64x2_d1 (ix2 r 0) = y (ix1 r)
      ∧ concatenate S64x2 1 [⟨S64x1, broadcastInDim S64x1 ![0] bcast_S64_S64x1_0 y⟩, ⟨S64x1, broadcastInDim S64x1 ![0] bcast_S64_S64x1_0 z⟩]
        concatenates_S64x1_S64x1_S64x2_d1 (ix2 r 1) = z (ix1 r) := by
  constructor <;> pointwise

/-- A gather at the batch and a token of a mention, both less than four, reads the token row named. -/
theorem gather_token (x0 : S4x2048x1024.Idx → EReal) (x3 : IVec S3x64 32) (hp : ∀ (a : Fin 3) (r : Fin 64), (x3 (ix2 a r)).toNat < 4) (a : Fin 3)
    (y z : IVec S64 32) (r : Fin 64) (hy : y (ix1 r) = x3 (ix2 0 r)) (hz : z (ix1 r) = x3 (ix2 a r)) (j : Fin 1024) :
    Host.gather gather_S4x2048x1024_S64x2_S64x1024_1_01_n_n_01_1_111024 x0
        (concatenate S64x2 1 [⟨S64x1, broadcastInDim S64x1 ![0] bcast_S64_S64x1_0 y⟩, ⟨S64x1, broadcastInDim S64x1 ![0] bcast_S64_S64x1_0 z⟩]
          concatenates_S64x1_S64x1_S64x2_d1) (ix2 r j) = token x0 x3 a r j := by
  obtain ⟨e0, e1⟩ := pair_apply y z r
  rw [gather_apply]
  have p0 := hp 0 r
  have p1 := hp a r
  refine congrArg x0 (funext fun b => Fin.ext ?_)
  match b with
  | ⟨0, _⟩ =>
    show min (BitVec.toInt _).toNat 3 = _ % 4
    rw [e0, hy, toInt_toNat _ p0]; omega
  | ⟨1, _⟩ =>
    show min (BitVec.toInt _).toNat 2047 = _ % 4
    rw [e1, hz, toInt_toNat _ p1]; omega
  | ⟨2, _⟩ => rfl

/-- The first half of a mention's span. -/
theorem gather1 (x0 : S4x2048x1024.Idx → EReal) (x3 : IVec S3x64 32) (hp : ∀ (a : Fin 3) (r : Fin 64), (x3 (ix2 a r)).toNat < 4) (r : Fin 64) (j : Fin 1024) :
    val_main_v17 (F := Ideal) x0 x3 (ix2 r j) = token x0 x3 1 r j :=
  gather_token x0 x3 hp 1 (val_main_v8 (F := Ideal) x3) (val_main_v13 (F := Ideal) x3) r (batch x3 hp r) (begin_token x3 hp r) j

/-- The second half of a mention's span. -/
theorem gather2 (x0 : S4x2048x1024.Idx → EReal) (x3 : IVec S3x64 32) (hp : ∀ (a : Fin 3) (r : Fin 64), (x3 (ix2 a r)).toNat < 4) (r : Fin 64) (j : Fin 1024) :
    val_main_v35 (F := Ideal) x0 x3 (ix2 r j) = token x0 x3 2 r j :=
  gather_token x0 x3 hp 2 (val_main_v8 (F := Ideal) x3) (val_main_v31 (F := Ideal) x3) r (batch x3 hp r) (end_token x3 hp r) j

/-- Two halves side by side, read back. -/
theorem halves_apply (y z : S64x1024.Idx → EReal) (r : Fin 64) (j : Fin 1024) :
    concatenate S64x2048 1 [⟨S64x1024, y⟩, ⟨S64x1024, z⟩] concatenates_S64x1024_S64x1024_S64x2048_d1 (ix2 r ⟨j.val, by omega⟩) = y (ix2 r j)
      ∧ concatenate S64x2048 1 [⟨S64x1024, y⟩, ⟨S64x1024, z⟩] concatenates_S64x1024_S64x1024_S64x2048_d1 (ix2 r ⟨1024 + j.val, by omega⟩)
        = z (ix2 r j) := by
  constructor <;> pointwise

/-- The reference's projected mentions. -/
theorem mention_apply (x0 : S4x2048x1024.Idx → EReal) (x3 : IVec S3x64 32) (x4 : S128x2048.Idx → EReal) (x5 : S128.Idx → EReal)
    (hp : ∀ (a : Fin 3) (r : Fin 64), (x3 (ix2 a r)).toNat < 4) (r : Fin 64) (k : Fin 128) :
    val_main_v41 (F := Ideal) x0 x3 x4 x5 (ix2 r k) = mention x0 x3 x4 x5 r k := by
  rw [val_main_v41_apply, val_main_v38_apply]
  unfold mention
  refine congrArg₂ (· + ·) ?_ ?_
  · refine (Fin.sum_univ_add (a := 1024) (b := 1024) (fun j : Fin 2048 => val_main_v36 (F := Ideal) x0 x3 (lidx_main_v38 (ix2 r k) j)
      * val_main_v37 (F := Ideal) x4 (ridx_main_v38 (ix2 r k) j))).trans ?_
    refine congrArg₂ (· + ·) (Finset.sum_congr rfl fun j _ => ?_) (Finset.sum_congr rfl fun j _ => ?_)
    · rw [val_main_v37_apply, ← gather1 x0 x3 hp]
      refine congrArg₂ (· * ·) ?_ (congrArg x4 (funext fun a => Fin.ext ?_))
      · rw [← (halves_apply (val_main_v17 (F := Ideal) x0 x3) (val_main_v35 (F := Ideal) x0 x3) r j).1]
        refine congrArg (val_main_v36 (F := Ideal) x0 x3) (funext fun a => Fin.ext ?_)
        match a with
        | ⟨0, _⟩ => rfl
        | ⟨1, _⟩ => rfl
      · match a with
        | ⟨0, _⟩ => rfl
        | ⟨1, _⟩ => rfl
    · rw [val_main_v37_apply, ← gather2 x0 x3 hp]
      refine congrArg₂ (· * ·) ?_ (congrArg x4 (funext fun a => Fin.ext ?_))
      · rw [← (halves_apply (val_main_v17 (F := Ideal) x0 x3) (val_main_v35 (F := Ideal) x0 x3) r j).2]
        refine congrArg (val_main_v36 (F := Ideal) x0 x3) (funext fun a => Fin.ext ?_)
        match a with
        | ⟨0, _⟩ => rfl
        | ⟨1, _⟩ => rfl
      · match a with
        | ⟨0, _⟩ => rfl
        | ⟨1, _⟩ => rfl
  · unfold val_main_v40 val_main_v39
    pointwise

/-- The reference's scores. -/
theorem score_apply (x0 : S4x2048x1024.Idx → EReal) (x3 : IVec S3x64 32) (x4 : S128x2048.Idx → EReal) (x5 : S128.Idx → EReal)
    (x6 : S128x100000.Idx → EReal) (hp : ∀ (a : Fin 3) (r : Fin 64), (x3 (ix2 a r)).toNat < 4) (r : Fin 64) (v : Fin 100000) :
    val_main_v42 (F := Ideal) x0 x3 x4 x5 x6 (ix2 r v) = score x0 x3 x4 x5 x6 r v := by
  rw [val_main_v42_apply]
  unfold score
  refine Finset.sum_congr rfl fun k _ => ?_
  rw [← mention_apply x0 x3 x4 x5 hp]
  refine congrArg₂ (· * ·) (congrArg _ (funext fun a => Fin.ext ?_)) (congrArg x6 (funext fun a => Fin.ext ?_))
  · match a with
    | ⟨0, _⟩ => rfl
    | ⟨1, _⟩ => rfl
  · match a with
    | ⟨0, _⟩ => rfl
    | ⟨1, _⟩ => rfl

/-- The number subtracted from a row of real scores is real. -/
theorem max_isReal (x0 : S4x2048x1024.Idx → EReal) (x3 : IVec S3x64 32) (x4 : S128x2048.Idx → EReal) (x5 : S128.Idx → EReal)
    (x6 : S128x100000.Idx → EReal) (hp : ∀ (a : Fin 3) (r : Fin 64), (x3 (ix2 a r)).toNat < 4)
    (hs : ∀ r v, IsReal (score x0 x3 x4 x5 x6 r v)) (r : Fin 64) : IsReal (val_main_v45 (F := Ideal) x0 x3 x4 x5 x6 (ix1 r)) := by
  have hb : Ideal.ofBits .f32 0xFF800000#32 = ⊥ := by simp [Ideal.ofBits, Ideal.ieee]
  have h44 : val_main_v44 (F := Ideal) (ix1 r) = (⊥ : EReal) := hb
  have h43 : val_main_v43 (F := Ideal) x0 x3 x4 x5 x6 (ix1 r)
      = Finset.univ.fold max ⊥ fun v : Fin 100000 => val_main_v42 (F := Ideal) x0 x3 x4 x5 x6 (ix2 r v) := by
    unfold val_main_v43
    generalize val_main_v42 (F := Ideal) x0 x3 x4 x5 x6 = y
    rw [← hb]
    pointwise
    rfl
  rw [val_main_v45_apply, h44, h43]
  show IsReal (max ⊥ _)
  rw [max_eq_right bot_le]
  exact IsReal.fold_max _ fun v => by rw [score_apply x0 x3 x4 x5 x6 hp]; exact hs r v

/-- The reference's result is the exponential of each score times the reciprocal of its row's total. -/
theorem prob_apply (x0 : S4x2048x1024.Idx → EReal) (x3 : IVec S3x64 32) (x4 : S128x2048.Idx → EReal) (x5 : S128.Idx → EReal)
    (x6 : S128x100000.Idx → EReal) (hp : ∀ (a : Fin 3) (r : Fin 64), (x3 (ix2 a r)).toNat < 4)
    (hs : ∀ r v, IsReal (score x0 x3 x4 x5 x6 r v)) (r : Fin 64) (v : Fin 100000) :
    val_main_v53 (F := Ideal) x0 x3 x4 x5 x6 (ix2 r v) = prob (score x0 x3 x4 x5 x6) r v := by
  have hμ := max_isReal x0 x3 x4 x5 x6 hp hs r
  have h49 : ∀ u : Fin 100000, val_main_v49 (F := Ideal) x0 x3 x4 x5 x6 (ix2 r u)
      = Ideal.exp (score x0 x3 x4 x5 x6 r u - val_main_v45 (F := Ideal) x0 x3 x4 x5 x6 (ix1 r)) := fun u => by
    rw [val_main_v49_apply, val_main_v48_apply, val_main_v47_apply, val_main_v46_apply, score_apply x0 x3 x4 x5 x6 hp]
    refine congrArg (fun z => Ideal.exp (_ - val_main_v45 (F := Ideal) x0 x3 x4 x5 x6 z)) (funext fun a => Fin.ext ?_)
    match a with
    | ⟨0, _⟩ => rfl
  have h52 : val_main_v52 (F := Ideal) x0 x3 x4 x5 x6 (ix2 r v)
      = ∑ u : Fin 100000, Ideal.exp (score x0 x3 x4 x5 x6 r u - val_main_v45 (F := Ideal) x0 x3 x4 x5 x6 (ix1 r)) := by
    rw [val_main_v52_apply, val_main_v51_apply, val_main_v50_apply]
    have hz : (val_main_cst_8 (F := Ideal)) (Shape.Idx.first h_S_) = (0 : EReal) := by
      show Ideal.ofBits .f32 0x00000000#32 = 0
      simp [Ideal.ofBits, Ideal.ieee]
    rw [hz, zero_add]
    refine Finset.sum_congr rfl fun u _ => ?_
    rw [← h49 u]
    refine congrArg _ (funext fun a => Fin.ext ?_)
    match a with
    | ⟨0, _⟩ => rfl
    | ⟨1, _⟩ => rfl
  rw [val_main_v53_apply, h49, h52]
  exact softmax_shift _ _ (hs r) hμ v

end Cert.ReferenceIdeal.Result

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_and_in_range
public import proofs.«01_k».proof.Proof.KernelRun
public import proofs.«01_k».proof.Proof.Result
public import proofs.«01_k».proof.Proof.Pre
public import proofs.«01_k».proof.Proof.Reference
public import Idealize.ShloMosaic.Lib.Quiescent

/-!
The certificate: the three programs run and end quiescent, and for positions in range and finite floats the kernel's
result is the reference's softmax.
-/

@[expose] public section

set_option maxRecDepth 16384

noncomputable section

namespace Cert.Proof

open Idealize.ShloMosaic Idealize.SL.Sem Cert.Model

attribute [local instance] Cert.Pre_finite_and_in_range.Gen.facts

/-- The reference runs and keeps its arguments; it declares no semaphore, so every counter ends at zero. -/
theorem reference_quiescent : Cert.quiescent_ReferenceIdeal (hReferenceIdeal := Cert.ReferenceIdeal.Gen.facts) := by
  intro m g _
  exact (θ_run _ _ _).mono (fun r h => ⟨fun c => (h c).2, sem_eq_zero_of_no_sems (by decide) r.2⟩) (Cert.ReferenceIdeal.Value.run m g)

/-- On one device, under the precondition: the reference's composed term is the kernel's result. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_and_in_range m) (c : Dev Cert.KernelIdeal.nD)
    (h0 : m' ((c.tc : Thread Cert.ReferenceIdeal.nD Cert.ReferenceIdeal.τ).loc Cert.ReferenceIdeal.main_arg0) = Cert.KernelIdeal.Blocks.aX m c)
    (h3 : m' ((c.tc : Thread Cert.ReferenceIdeal.nD Cert.ReferenceIdeal.τ).loc Cert.ReferenceIdeal.main_arg3) = Cert.KernelIdeal.Blocks.aPos m c)
    (h4 : m' ((c.tc : Thread Cert.ReferenceIdeal.nD Cert.ReferenceIdeal.τ).loc Cert.ReferenceIdeal.main_arg4) = Cert.KernelIdeal.Blocks.aW m c)
    (h5 : m' ((c.tc : Thread Cert.ReferenceIdeal.nD Cert.ReferenceIdeal.τ).loc Cert.ReferenceIdeal.main_arg5) = Cert.KernelIdeal.Blocks.aB m c)
    (h6 : m' ((c.tc : Thread Cert.ReferenceIdeal.nD Cert.ReferenceIdeal.τ).loc Cert.ReferenceIdeal.main_arg6) = Cert.KernelIdeal.Blocks.aE m c) :
    Cert.ReferenceIdeal.Value.res_main_v53 m' c = Cert.KernelIdeal.Result.result m c := by
  obtain ⟨hp, hX, hW, hb, hE⟩ := Cert.Pre_finite_and_in_range.decode _ _ _ _ _ _ _ (hpre c)
  rw [Cert.ReferenceIdeal.Read.val_main_v53_eq, h0, h3, h4, h5, h6]
  funext i
  have hs := score_isReal _ (Cert.KernelIdeal.Blocks.aPos m c) _ _ _ hX hW hb hE
  obtain ⟨r, v, rfl⟩ : ∃ (r : Fin 64) (v : Fin 100000), i = ix2 r v :=
    ⟨i 0, i 1, funext fun a => match a with | ⟨0, _⟩ => rfl | ⟨1, _⟩ => rfl⟩
  exact Cert.ReferenceIdeal.Result.prob_apply _ _ _ _ _ hp hs r v

/-- Under the precondition the kernel and the reference end with equal results. -/
theorem algebraic : Cert.algebraic_KernelIdeal_ReferenceIdeal_pre_finite_and_in_range (hKernelIdeal := Cert.KernelIdeal.Gen.facts)
    (hReferenceIdeal := Cert.ReferenceIdeal.Gen.facts) (hPre_finite_and_in_range := Cert.Pre_finite_and_in_range.Gen.facts) := by
  intro m g m' g' hpre hargs
  refine ⟨Cert.KernelIdeal.Result.result m, ?_, ?_⟩
  · exact Cert.KernelIdeal.Result.run m g fun c => (Cert.Pre_finite_and_in_range.decode _ _ _ _ _ _ _ (hpre c)).1
  · refine (θ_run _ _ _).mono (fun r h c => ⟨(h c).1.trans ?_, (h c).2⟩) (Cert.ReferenceIdeal.Value.run m' g')
    obtain ⟨h0, _, _, h3, h4, h5, h6⟩ := hargs c
    exact results_agree m m' hpre c h0 h3 h4 h5 h6

/-- Every claim of the certificate. -/
theorem claim : Cert.Claim :=
  ⟨Cert.Kernel.Gen.facts, Cert.KernelIdeal.Gen.facts, Cert.ReferenceIdeal.Gen.facts, Cert.Pre_finite_and_in_range.Gen.facts,
    fun m g _ => Cert.Kernel.Run.quiescent m g, fun m g _ => Cert.KernelIdeal.Data.quiescent g m,
    fun m g _ => Cert.KernelIdeal.Data.quiescent g m, reference_quiescent, fun m g _ => reference_quiescent m g trivial, trivial, algebraic⟩

end Cert.Proof

end
